-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048 : Shape := ⟨2, ![8, 2048]⟩
abbrev S8x2048x2048 : Shape := ⟨3, ![8, 2048, 2048]⟩
abbrev S8x8x256 : Shape := ⟨3, ![8, 8, 256]⟩
abbrev S8x128 : Shape := ⟨2, ![8, 128]⟩
abbrev S8x1 : Shape := ⟨2, ![8, 1]⟩
abbrev S4x256x2048 : Shape := ⟨3, ![4, 256, 2048]⟩
abbrev S8x256 : Shape := ⟨2, ![8, 256]⟩
abbrev S4 : Shape := ⟨1, ![4]⟩
abbrev S1 : Shape := ⟨1, ![1]⟩
abbrev S_ : Shape := ⟨0, ![]⟩
abbrev S1x256x2048 : Shape := ⟨3, ![1, 256, 2048]⟩
abbrev S256x2048 : Shape := ⟨2, ![256, 2048]⟩
abbrev S1x2048 : Shape := ⟨2, ![1, 2048]⟩
abbrev S1x256 : Shape := ⟨2, ![1, 256]⟩
abbrev S1x8x256 : Shape := ⟨3, ![1, 8, 256]⟩
abbrev S1x1x1 : Shape := ⟨3, ![1, 1, 1]⟩
abbrev S1x1 : Shape := ⟨2, ![1, 1]⟩
abbrev S1x128 : Shape := ⟨2, ![1, 128]⟩

abbrev nBuf : Space → Nat
  | .hbm => 10
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S8x2048x2048, .f32⟩
  | .hbm, ⟨2, _⟩ => ⟨S8x2048, .f32⟩
  | .hbm, ⟨3, _⟩ => ⟨S8x2048, .f32⟩
  | .hbm, ⟨4, _⟩ => ⟨S8x8x256, .f32⟩
  | .hbm, ⟨5, _⟩ => ⟨S8x8x256, .f32⟩
  | .hbm, ⟨6, _⟩ => ⟨S8x128, .i32⟩
  | .hbm, ⟨7, _⟩ => ⟨S8x128, .f32⟩
  | .hbm, ⟨8, _⟩ => ⟨S8x1, .i32⟩
  | .hbm, ⟨9, _⟩ => ⟨S8x1, .f32⟩
  | .local _ .vmem, ⟨0, _⟩ => ⟨S8x2048, .f32⟩
  | .local _ .vmem, ⟨1, _⟩ => ⟨S8x8x256, .f32⟩
  | .local _ .vmem, ⟨2, _⟩ => ⟨S8x8x256, .f32⟩
  | .local _ .vmem, ⟨3, _⟩ => ⟨S8x128, .i32⟩
  | .local _ .vmem, ⟨4, _⟩ => ⟨S8x128, .f32⟩
  | .local _ .vmem, ⟨5, _⟩ => ⟨S4x256x2048, .f32⟩
  | .local _ .vmem, ⟨6, _⟩ => ⟨S8x256, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2_0 : Ref sig .tc := ⟨.hbm, 6, rfl⟩
abbrev main_call0_v2_1 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_21 : BitVec 32 := 0#32
  let c64_i32 : BitVec 32 := 64#32
  let v24 : BitVec 32 := Scalar.addi c0_i32_21 c64_i32
  let c1_i32_22 : BitVec 32 := 1#32
  ⟨c0_i32_21, v24, c1_i32_22⟩
def k0_off1 (k0_t1 : Fin k0_t1_loop.trips) : Fin 1 → Nat :=
  let c0_i32_21 : BitVec 32 := 0#32
  let c1_i32_22 : BitVec 32 := 1#32
  let arg9 : BitVec 32 := Scf.iv c0_i32_21 c1_i32_22 k0_t1
  let c4_i32 : BitVec 32 := 4#32
  let v25 : BitVec 32 := Scalar.remsi arg9 c4_i32
  ![v25.toNat]
def k0_off2 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c4_i32 : BitVec 32 := 4#32
  let v25 : BitVec 32 := Scalar.remsi arg9 c4_i32
  let c0_i32_50 : BitVec 32 := 0#32
  let c0_i32_51 : BitVec 32 := 0#32
  ![v25.toNat, 0, 0]
def k0_off3 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c0_i32_37 : BitVec 32 := 0#32
  let v54 : BitVec 1 := Scalar.cmpi .sgt arg9 c0_i32_37
  let v55 : BitVec 32 := Scalar.extui v54
  let c0_i32_38 : BitVec 32 := 0#32
  let v56 : BitVec 1 := Scalar.cmpi .slt arg9 c0_i32_38
  let v57 : BitVec 32 := Scalar.extui v56
  let v58 : BitVec 32 := Scalar.subi v55 v57
  let c8_i32_36 : BitVec 32 := 8#32
  let c0_i32_39 : BitVec 32 := 0#32
  let v59 : BitVec 1 := Scalar.cmpi .sgt c8_i32_36 c0_i32_39
  let v60 : BitVec 32 := Scalar.extui v59
  let c0_i32_40 : BitVec 32 := 0#32
  let v61 : BitVec 1 := Scalar.cmpi .slt c8_i32_36 c0_i32_40
  let v62 : BitVec 32 := Scalar.extui v61
  let v63 : BitVec 32 := Scalar.subi v60 v62
  let v64 : BitVec 1 := Scalar.cmpi .ne v58 v63
  let v65 : BitVec 32 := Scalar.remsi arg9 c8_i32_36
  let c0_i32_41 : BitVec 32 := 0#32
  let v66 : BitVec 1 := Scalar.cmpi .ne v65 c0_i32_41
  let v67 : BitVec 1 := Scalar.andi v64 v66
  let v53 : BitVec 32 := Scalar.divsi arg9 c8_i32_36
  let c1_i32_42 : BitVec 32 := 1#32
  let v68 : BitVec 32 := Scalar.subi v53 c1_i32_42
  let v69 : BitVec 32 := Scalar.select v67 v68 v53
  let c8_i32_43 : BitVec 32 := 8#32
  let c0_i32_44 : BitVec 32 := 0#32
  let v70 : BitVec 1 := Scalar.cmpi .eq c8_i32_43 c0_i32_44
  let c1_i32_45 : BitVec 32 := 1#32
  let v71 : BitVec 32 := Scalar.select v70 c1_i32_45 c8_i32_43
  let v72 : BitVec 32 := Scalar.remsi arg9 v71
  let c0_i32_47 : BitVec 32 := 0#32
  let v74 : BitVec 1 := Scalar.cmpi .slt v72 c0_i32_47
  let c0_i32_48 : BitVec 32 := 0#32
  let v75 : BitVec 1 := Scalar.cmpi .slt v71 c0_i32_48
  let v76 : BitVec 1 := Scalar.xori v74 v75
  let c0_i32_46 : BitVec 32 := 0#32
  let v73 : BitVec 1 := Scalar.cmpi .ne v72 c0_i32_46
  let v77 : BitVec 1 := Scalar.andi v76 v73
  let v78 : BitVec 32 := Scalar.addi v72 v71
  let v79 : BitVec 32 := Scalar.select v77 v78 v72
  let c256_i32_49 : BitVec 32 := 256#32
  let v80 : BitVec 32 := Scalar.muli v79 c256_i32_49
  let c0_i32_52 : BitVec 32 := 0#32
  ![v69.toNat, v80.toNat, 0]
def k0_off4 (k0_t1 : Fin k0_t1_loop.trips) : Fin 2 → Nat :=
  let c0_i32_21 : BitVec 32 := 0#32
  let c1_i32_22 : BitVec 32 := 1#32
  let arg9 : BitVec 32 := Scf.iv c0_i32_21 c1_i32_22 k0_t1
  let c0_i32_24 : BitVec 32 := 0#32
  let v27 : BitVec 1 := Scalar.cmpi .sgt arg9 c0_i32_24
  let v28 : BitVec 32 := Scalar.extui v27
  let c0_i32_25 : BitVec 32 := 0#32
  let v29 : BitVec 1 := Scalar.cmpi .slt arg9 c0_i32_25
  let v30 : BitVec 32 := Scalar.extui v29
  let v31 : BitVec 32 := Scalar.subi v28 v30
  let c8_i32 : BitVec 32 := 8#32
  let c0_i32_26 : BitVec 32 := 0#32
  let v32 : BitVec 1 := Scalar.cmpi .sgt c8_i32 c0_i32_26
  let v33 : BitVec 32 := Scalar.extui v32
  let c0_i32_27 : BitVec 32 := 0#32
  let v34 : BitVec 1 := Scalar.cmpi .slt c8_i32 c0_i32_27
  let v35 : BitVec 32 := Scalar.extui v34
  let v36 : BitVec 32 := Scalar.subi v33 v35
  let v37 : BitVec 1 := Scalar.cmpi .ne v31 v36
  let v38 : BitVec 32 := Scalar.remsi arg9 c8_i32
  let c0_i32_28 : BitVec 32 := 0#32
  let v39 : BitVec 1 := Scalar.cmpi .ne v38 c0_i32_28
  let v40 : BitVec 1 := Scalar.andi v37 v39
  let v26 : BitVec 32 := Scalar.divsi arg9 c8_i32
  let c1_i32_29 : BitVec 32 := 1#32
  let v41 : BitVec 32 := Scalar.subi v26 c1_i32_29
  let v42 : BitVec 32 := Scalar.select v40 v41 v26
  let v87 : Index := Scalar.indexCast v42
  let c0 : Index := 0#32
  ![v87.toNat, 0]
def k0_off5 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c4_i32 : BitVec 32 := 4#32
  let v25 : BitVec 32 := Scalar.remsi arg9 c4_i32
  let v89 : Index := Scalar.indexCast v25
  let c0_53 : Index := 0#32
  let c0_54 : Index := 0#32
  ![v89.toNat, 0, 0]
def k0_off6 (k0_t1 : Fin k0_t1_loop.trips) : Fin 2 → Nat :=
  let c0_i32_21 : BitVec 32 := 0#32
  let c1_i32_22 : BitVec 32 := 1#32
  let arg9 : BitVec 32 := Scf.iv c0_i32_21 c1_i32_22 k0_t1
  let c8_i32_30 : BitVec 32 := 8#32
  let c0_i32_31 : BitVec 32 := 0#32
  let v43 : BitVec 1 := Scalar.cmpi .eq c8_i32_30 c0_i32_31
  let c1_i32_32 : BitVec 32 := 1#32
  let v44 : BitVec 32 := Scalar.select v43 c1_i32_32 c8_i32_30
  let v45 : BitVec 32 := Scalar.remsi arg9 v44
  let c0_i32_34 : BitVec 32 := 0#32
  let v47 : BitVec 1 := Scalar.cmpi .slt v45 c0_i32_34
  let c0_i32_35 : BitVec 32 := 0#32
  let v48 : BitVec 1 := Scalar.cmpi .slt v44 c0_i32_35
  let v49 : BitVec 1 := Scalar.xori v47 v48
  let c0_i32_33 : BitVec 32 := 0#32
  let v46 : BitVec 1 := Scalar.cmpi .ne v45 c0_i32_33
  let v50 : BitVec 1 := Scalar.andi v49 v46
  let v51 : BitVec 32 := Scalar.addi v45 v44
  let v52 : BitVec 32 := Scalar.select v50 v51 v45
  let v93 : Index := Scalar.indexCast v52
  let c0_55 : Index := 0#32
  ![v93.toNat, 0]
def k0_cond1 (k0_t1 : Fin k0_t1_loop.trips) : BitVec 1 :=
  let c0_i32_21 : BitVec 32 := 0#32
  let c1_i32_22 : BitVec 32 := 1#32
  let arg9 : BitVec 32 := Scf.iv c0_i32_21 c1_i32_22 k0_t1
  let c4_i32_56 : BitVec 32 := 4#32
  let v97 : BitVec 32 := Scalar.addi arg9 c4_i32_56
  let c64_i32_57 : BitVec 32 := 64#32
  let v98 : BitVec 1 := Scalar.cmpi .slt v97 c64_i32_57
  let v99 : BitVec 32 := Scalar.extui v98
  let c0_i32_58 : BitVec 32 := 0#32
  let v100 : BitVec 1 := Scalar.cmpi .ne v99 c0_i32_58
  v100

def k0_off7 (k0_t1 : Fin k0_t1_loop.trips) : Fin 1 → Nat :=
  let c0_i32_21 : BitVec 32 := 0#32
  let c1_i32_22 : BitVec 32 := 1#32
  let arg9 : BitVec 32 := Scf.iv c0_i32_21 c1_i32_22 k0_t1
  let c4_i32 : BitVec 32 := 4#32
  let v25 : BitVec 32 := Scalar.remsi arg9 c4_i32
  ![v25.toNat]
def k0_off8 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c4_i32 : BitVec 32 := 4#32
  let v25 : BitVec 32 := Scalar.remsi arg9 c4_i32
  let c0_i32_75 : BitVec 32 := 0#32
  let c0_i32_76 : BitVec 32 := 0#32
  ![v25.toNat, 0, 0]
def k0_off9 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c4_i32_60 : BitVec 32 := 4#32
  let v104 : BitVec 32 := Scalar.addi arg9 c4_i32_60
  let c0_i32_62 : BitVec 32 := 0#32
  let v106 : BitVec 1 := Scalar.cmpi .sgt v104 c0_i32_62
  let v107 : BitVec 32 := Scalar.extui v106
  let c0_i32_63 : BitVec 32 := 0#32
  let v108 : BitVec 1 := Scalar.cmpi .slt v104 c0_i32_63
  let v109 : BitVec 32 := Scalar.extui v108
  let v110 : BitVec 32 := Scalar.subi v107 v109
  let c8_i32_61 : BitVec 32 := 8#32
  let c0_i32_64 : BitVec 32 := 0#32
  let v111 : BitVec 1 := Scalar.cmpi .sgt c8_i32_61 c0_i32_64
  let v112 : BitVec 32 := Scalar.extui v111
  let c0_i32_65 : BitVec 32 := 0#32
  let v113 : BitVec 1 := Scalar.cmpi .slt c8_i32_61 c0_i32_65
  let v114 : BitVec 32 := Scalar.extui v113
  let v115 : BitVec 32 := Scalar.subi v112 v114
  let v116 : BitVec 1 := Scalar.cmpi .ne v110 v115
  let v117 : BitVec 32 := Scalar.remsi v104 c8_i32_61
  let c0_i32_66 : BitVec 32 := 0#32
  let v118 : BitVec 1 := Scalar.cmpi .ne v117 c0_i32_66
  let v119 : BitVec 1 := Scalar.andi v116 v118
  let v105 : BitVec 32 := Scalar.divsi v104 c8_i32_61
  let c1_i32_67 : BitVec 32 := 1#32
  let v120 : BitVec 32 := Scalar.subi v105 c1_i32_67
  let v121 : BitVec 32 := Scalar.select v119 v120 v105
  let c8_i32_68 : BitVec 32 := 8#32
  let c0_i32_69 : BitVec 32 := 0#32
  let v122 : BitVec 1 := Scalar.cmpi .eq c8_i32_68 c0_i32_69
  let c1_i32_70 : BitVec 32 := 1#32
  let v123 : BitVec 32 := Scalar.select v122 c1_i32_70 c8_i32_68
  let v124 : BitVec 32 := Scalar.remsi v104 v123
  let c0_i32_72 : BitVec 32 := 0#32
  let v126 : BitVec 1 := Scalar.cmpi .slt v124 c0_i32_72
  let c0_i32_73 : BitVec 32 := 0#32
  let v127 : BitVec 1 := Scalar.cmpi .slt v123 c0_i32_73
  let v128 : BitVec 1 := Scalar.xori v126 v127
  let c0_i32_71 : BitVec 32 := 0#32
  let v125 : BitVec 1 := Scalar.cmpi .ne v124 c0_i32_71
  let v129 : BitVec 1 := Scalar.andi v128 v125
  let v130 : BitVec 32 := Scalar.addi v124 v123
  let v131 : BitVec 32 := Scalar.select v129 v130 v124
  let c256_i32_74 : BitVec 32 := 256#32
  let v132 : BitVec 32 := Scalar.muli v131 c256_i32_74
  let c0_i32_77 : BitVec 32 := 0#32
  ![v121.toNat, v132.toNat, 0]
def k0_cond2 (k0_t1 : Fin k0_t1_loop.trips) : BitVec 1 :=
  let c0_i32_21 : BitVec 32 := 0#32
  let c1_i32_22 : BitVec 32 := 1#32
  let arg9 : BitVec 32 := Scf.iv c0_i32_21 c1_i32_22 k0_t1
  let c8_i32_30 : BitVec 32 := 8#32
  let c0_i32_31 : BitVec 32 := 0#32
  let v43 : BitVec 1 := Scalar.cmpi .eq c8_i32_30 c0_i32_31
  let c1_i32_32 : BitVec 32 := 1#32
  let v44 : BitVec 32 := Scalar.select v43 c1_i32_32 c8_i32_30
  let v45 : BitVec 32 := Scalar.remsi arg9 v44
  let c0_i32_34 : BitVec 32 := 0#32
  let v47 : BitVec 1 := Scalar.cmpi .slt v45 c0_i32_34
  let c0_i32_35 : BitVec 32 := 0#32
  let v48 : BitVec 1 := Scalar.cmpi .slt v44 c0_i32_35
  let v49 : BitVec 1 := Scalar.xori v47 v48
  let c0_i32_33 : BitVec 32 := 0#32
  let v46 : BitVec 1 := Scalar.cmpi .ne v45 c0_i32_33
  let v50 : BitVec 1 := Scalar.andi v49 v46
  let v51 : BitVec 32 := Scalar.addi v45 v44
  let v52 : BitVec 32 := Scalar.select v50 v51 v45
  let c7_i32 : BitVec 32 := 7#32
  let v101 : BitVec 1 := Scalar.cmpi .eq v52 c7_i32
  let v102 : BitVec 32 := Scalar.extui v101
  let c0_i32_59 : BitVec 32 := 0#32
  let v103 : BitVec 1 := Scalar.cmpi .ne v102 c0_i32_59
  v103

def k0_off10 (k0_t1 : Fin k0_t1_loop.trips) : Fin 3 → Nat :=
  let c0_i32_21 : BitVec 32 := 0#32
  let c1_i32_22 : BitVec 32 := 1#32
  let arg9 : BitVec 32 := Scf.iv c0_i32_21 c1_i32_22 k0_t1
  let c0_i32_24 : BitVec 32 := 0#32
  let v27 : BitVec 1 := Scalar.cmpi .sgt arg9 c0_i32_24
  let v28 : BitVec 32 := Scalar.extui v27
  let c0_i32_25 : BitVec 32 := 0#32
  let v29 : BitVec 1 := Scalar.cmpi .slt arg9 c0_i32_25
  let v30 : BitVec 32 := Scalar.extui v29
  let v31 : BitVec 32 := Scalar.subi v28 v30
  let c8_i32 : BitVec 32 := 8#32
  let c0_i32_26 : BitVec 32 := 0#32
  let v32 : BitVec 1 := Scalar.cmpi .sgt c8_i32 c0_i32_26
  let v33 : BitVec 32 := Scalar.extui v32
  let c0_i32_27 : BitVec 32 := 0#32
  let v34 : BitVec 1 := Scalar.cmpi .slt c8_i32 c0_i32_27
  let v35 : BitVec 32 := Scalar.extui v34
  let v36 : BitVec 32 := Scalar.subi v33 v35
  let v37 : BitVec 1 := Scalar.cmpi .ne v31 v36
  let v38 : BitVec 32 := Scalar.remsi arg9 c8_i32
  let c0_i32_28 : BitVec 32 := 0#32
  let v39 : BitVec 1 := Scalar.cmpi .ne v38 c0_i32_28
  let v40 : BitVec 1 := Scalar.andi v37 v39
  let v26 : BitVec 32 := Scalar.divsi arg9 c8_i32
  let c1_i32_29 : BitVec 32 := 1#32
  let v41 : BitVec 32 := Scalar.subi v26 c1_i32_29
  let v42 : BitVec 32 := Scalar.select v40 v41 v26
  let v105 : Index := Scalar.indexCast v42
  let c0_62 : Index := 0#32
  let c0_63 : Index := 0#32
  ![v105.toNat, 0, 0]
def k0_off11 (k0_t1 : Fin k0_t1_loop.trips) : Fin 2 → Nat :=
  let c0_i32_21 : BitVec 32 := 0#32
  let c1_i32_22 : BitVec 32 := 1#32
  let arg9 : BitVec 32 := Scf.iv c0_i32_21 c1_i32_22 k0_t1
  let c0_i32_24 : BitVec 32 := 0#32
  let v27 : BitVec 1 := Scalar.cmpi .sgt arg9 c0_i32_24
  let v28 : BitVec 32 := Scalar.extui v27
  let c0_i32_25 : BitVec 32 := 0#32
  let v29 : BitVec 1 := Scalar.cmpi .slt arg9 c0_i32_25
  let v30 : BitVec 32 := Scalar.extui v29
  let v31 : BitVec 32 := Scalar.subi v28 v30
  let c8_i32 : BitVec 32 := 8#32
  let c0_i32_26 : BitVec 32 := 0#32
  let v32 : BitVec 1 := Scalar.cmpi .sgt c8_i32 c0_i32_26
  let v33 : BitVec 32 := Scalar.extui v32
  let c0_i32_27 : BitVec 32 := 0#32
  let v34 : BitVec 1 := Scalar.cmpi .slt c8_i32 c0_i32_27
  let v35 : BitVec 32 := Scalar.extui v34
  let v36 : BitVec 32 := Scalar.subi v33 v35
  let v37 : BitVec 1 := Scalar.cmpi .ne v31 v36
  let v38 : BitVec 32 := Scalar.remsi arg9 c8_i32
  let c0_i32_28 : BitVec 32 := 0#32
  let v39 : BitVec 1 := Scalar.cmpi .ne v38 c0_i32_28
  let v40 : BitVec 1 := Scalar.andi v37 v39
  let v26 : BitVec 32 := Scalar.divsi arg9 c8_i32
  let c1_i32_29 : BitVec 32 := 1#32
  let v41 : BitVec 32 := Scalar.subi v26 c1_i32_29
  let v42 : BitVec 32 := Scalar.select v40 v41 v26
  let v151 : Index := Scalar.indexCast v42
  let c0_72 : Index := 0#32
  ![v151.toNat, 0]
abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S8x2048 : Shape := ⟨2, ![8, 2048]⟩
abbrev S8x2048x2048 : Shape := ⟨3, ![8, 2048, 2048]⟩
abbrev S_ : Shape := ⟨0, ![]⟩
abbrev S8 : Shape := ⟨1, ![8]⟩
abbrev S8x1 : Shape := ⟨2, ![8, 1]⟩
abbrev S8x1x1 : Shape := ⟨3, ![8, 1, 1]⟩
abbrev S1 : Shape := ⟨1, ![1]⟩
abbrev S1x1x1 : Shape := ⟨3, ![1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048x2048, .f32⟩
  | .hbm, ⟨2, _⟩ => ⟨S8x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S8x2048, .i32⟩
  | .hbm, ⟨8, _⟩ => ⟨S_, .f32⟩
  | .hbm, ⟨9, _⟩ => ⟨S_, .i32⟩
  | .hbm, ⟨10, _⟩ => ⟨S8, .f32⟩
  | .hbm, ⟨11, _⟩ => ⟨S8, .i32⟩
  | .hbm, ⟨12, _⟩ => ⟨S_, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8x1, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8, .f32⟩
  | .hbm, ⟨23, _⟩ => ⟨S8x1, .f32⟩
  | .hbm, ⟨24, _⟩ => ⟨S8x1, .f32⟩
  | .hbm, ⟨25, _⟩ => ⟨S8x2048, .f32⟩
  | .hbm, ⟨26, _⟩ => ⟨S8x2048, .f32⟩
  | .hbm, ⟨27, _⟩ => ⟨S8x1, .i32⟩
  | .hbm, ⟨28, _⟩ => ⟨S_, .i32⟩
  | .hbm, ⟨29, _⟩ => ⟨S8x1, .i32⟩
  | .hbm, ⟨30, _⟩ => ⟨S8x1, .i1⟩
  | .hbm, ⟨31, _⟩ => ⟨S_, .i32⟩
  | .hbm, ⟨32, _⟩ => ⟨S8x1, .i32⟩
  | .hbm, ⟨33, _⟩ => ⟨S8x1, .i32⟩
  | .hbm, ⟨34, _⟩ => ⟨S8x1, .i32⟩
  | .hbm, ⟨35, _⟩ => ⟨S8x1x1, .i32⟩
  | .hbm, ⟨36, _⟩ => ⟨S1, .i32⟩
  | .hbm, ⟨37, _⟩ => ⟨S_, .i32⟩
  | .hbm, ⟨38, _⟩ => ⟨S8x1x1, .i32⟩
  | .hbm, ⟨39, _⟩ => ⟨S8x1x1, .i1⟩
  | .hbm, ⟨40, _⟩ => ⟨S1x1x1, .i32⟩
  | .hbm, ⟨41, _⟩ => ⟨S8x1x1, .i32⟩
  | .hbm, ⟨42, _⟩ => ⟨S8x1x1, .i1⟩
  | .hbm, ⟨43, _⟩ => ⟨S8x1x1, .i1⟩
  | .hbm, ⟨44, _⟩ => ⟨S_, .i1⟩
  | .hbm, ⟨45, _⟩ => ⟨S8x1, .i1⟩
  | .hbm, ⟨46, _⟩ => ⟨S8x1, .f32⟩
  | .hbm, ⟨47, _⟩ => ⟨S_, .f32⟩
  | .hbm, ⟨48, _⟩ => ⟨S8x1, .f32⟩
  | .hbm, ⟨49, _⟩ => ⟨S8x1, .f32⟩
  | .hbm, ⟨50, _⟩ => ⟨S8x1, .i32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_c : Ref sig .tc := ⟨.hbm, 9, rfl⟩
abbrev main_call0_v1_0 : Ref sig .tc := ⟨.hbm, 10, rfl⟩
abbrev main_v3 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v4 : Ref sig .tc := ⟨.hbm, 26, rfl⟩
abbrev main_v5 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_cst : Ref sig .tc := ⟨.hbm, 47, rfl⟩
abbrev main_call2_v14 : Ref sig .tc := ⟨.hbm, 48, rfl⟩
abbrev main_v6 : Ref sig .tc := ⟨.hbm, 49, rfl⟩
abbrev main_v7 : Ref sig .tc := ⟨.hbm, 50, rfl⟩

abbrev nD : Nat := 1
abbrev τ : Topo := Topo.v7x

variable {F : FTy → Type} [FloatOps F]
-- ==== Proof.ResultKernel.lean ====
module

public import proofs.«01_k».proof.Proof.RunKernel
public import Idealize.ShloMosaic.Lib.Claim
public import Idealize.ShloMosaic.Lib.Tactic

@[expose] public section

noncomputable section

namespace Cert.Kernel.Body

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]

variable (m : (ℓ : Loc nD τ sig) → Buf (Elt F) ℓ) (ρ : Dev nD → PrngReg)

/-- No host line touches `main_arg1`: it ends as launched. -/
theorem tail_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line touches `main_arg2`: it ends as launched. -/
theorem tail_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- From any memory with zero counters the program terminates with its arguments unchanged and every semaphore at zero. -/
theorem run_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats m 0 c).arrAt_in 0 rfl _).trans ((A_eq m c 0).trans (V_main_arg0 m c))),
      (((h.1 c).2 main_arg1 (Pipeline.mem_restRefs_of main_arg1 (by decide) (by decide))).trans (tail_arg1 m c)),
      (((h.1 c).2 main_arg2 (Pipeline.mem_restRefs_of main_arg2 (by decide) (by decide))).trans (tail_arg2 m c))⟩, h.2⟩) (run_main m ρ)

end Cert.Kernel.Body

end
-- ==== Proof.RingIdeal.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Pointwise
public import Idealize.ShloMosaic.Lib.WritesUnit
public import Idealize.ShloMosaic.Lib.VecWindow
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra the proof runs in: the pipeline's own beside the counters the kernel's own copies use. -/
local notation "𝕄" => MT nD τ sig Unit (Elt F) ℕ (Pipeline.UD sig nD τ) ℕ

/-- The bodies run at no variant. -/
abbrev 𝒱₀ : Variants := Variants.none

/-! ## Names for the pieces the copies move -/

/-- The weight array, left where it was launched. -/
abbrev wM : Memref sig .tc .hbm S8x2048x2048 .f32 := Memref.whole main_arg1
/-- The scratch of four slots, each one chunk of weights. -/
abbrev bufM : Memref sig .tc .vmem S4x256x2048 .f32 := Memref.whole cc0_scratch0
/-- The scratch that collects the eight rows of one agent's logits. -/
abbrev accM : Memref sig .tc .vmem S8x256 .f32 := Memref.whole cc0_scratch1

/-- Where chunk `b` starts in the weight array: agent `b / 8`, row `256 * (b % 8)`. -/
abbrev chunkOff (b : Fin 64) : Fin 3 → Nat := ![b.val / 8, (b.val % 8) * 256, 0]
theorem chunkOff_inb (b : Fin 64) : ∀ a, chunkOff b a + S1x256x2048.size a ≤ S8x2048x2048.size a := by
  have := b.isLt; intro a; fin_cases a
  · show b.val / 8 + 1 ≤ 8; omega
  · show b.val % 8 * 256 + 256 ≤ 2048; omega
  · show 0 + 2048 ≤ 2048; omega
/-- Where slot `s` starts in the scratch. -/
abbrev slotOff (s : Fin 4) : Fin 3 → Nat := ![s.val, 0, 0]
theorem slotOff_inb (s : Fin 4) : ∀ a, slotOff s a + S1x256x2048.size a ≤ S4x256x2048.size a := by
  have := s.isLt; intro a; fin_cases a
  · show s.val + 1 ≤ 4; omega
  · show 0 + 256 ≤ 256; omega
  · show 0 + 2048 ≤ 2048; omega
/-- Where slot `s`'s semaphore lies in the semaphore array. -/
abbrev cellOff (s : Fin 4) : Fin 1 → Nat := ![s.val]
theorem cellOff_inb (s : Fin 4) : ∀ a, cellOff s a + S1.size a ≤ S4.size a := by
  have := s.isLt; intro a; fin_cases a; show s.val + 1 ≤ 4; omega

/-- Chunk `b` of the weights, as the body cuts and squeezes it. -/
def chunk (b : Fin 64) : Memref sig .tc .hbm S256x2048 .f32 :=
  (wM.slice (Rect.unit (s := S8x2048x2048) (chunkOff b) S1x256x2048.size (chunkOff_inb b)) (fun _ => rfl)).squeeze S256x2048 squeezes_S1x256x2048_S256x2048
/-- Slot `s` of the scratch, as the body cuts and squeezes it. -/
def slot (s : Fin 4) : Memref sig .tc .vmem S256x2048 .f32 :=
  (bufM.slice (Rect.unit (s := S4x256x2048) (slotOff s) S1x256x2048.size (slotOff_inb s)) (fun _ => rfl)).squeeze S256x2048 squeezes_S1x256x2048_S256x2048
/-- Slot `s`'s semaphore. -/
def cell (s : Fin 4) : DmaSems sig S_ :=
  (cc0_scratch2.slice (Rect.unit (s := S4) (cellOff s) S1.size (cellOff_inb s))).squeeze S_ squeezes_S1_S_

instance (s : Fin 4) : ClosedOff (slotOff s) := ⟨slotOff s, rfl⟩
instance (b : Fin 64) : ClosedOff (chunkOff b) := ⟨chunkOff b, rfl⟩

/-- The loop makes 64 trips. -/
theorem trips_eq : k0_t1_loop.trips = 64 := by decide +kernel

theorem trip_lt (k : Fin k0_t1_loop.trips) : k.val < 64 := Nat.lt_of_lt_of_eq k.isLt trips_eq

/-- Trip `k` waits for the chunk at agent `k / 8`, row `256 * (k % 8)`, -/
theorem off3_eq : ∀ k : Fin k0_t1_loop.trips, k0_off3 k = ![k.val / 8, (k.val % 8) * 256, 0] := by decide +kernel
/-- reads row `k / 8` of the inputs, -/
theorem off4_eq : ∀ k : Fin k0_t1_loop.trips, k0_off4 k = ![k.val / 8, 0] := by decide +kernel
/-- writes row `k % 8` of the logits' scratch, -/
theorem off6_eq : ∀ k : Fin k0_t1_loop.trips, k0_off6 k = ![k.val % 8, 0] := by decide +kernel
/-- and, four trips before the end or earlier, starts the copy of chunk `k + 4`. -/
theorem off9_eq : ∀ k : Fin k0_t1_loop.trips, k0_off9 k = ![(k.val + 4) / 8, ((k.val + 4) % 8) * 256, 0] := by decide +kernel
/-- The last trip of an agent reads slab `k / 8` of the biases and of the noise, -/
theorem off10_eq : ∀ k : Fin k0_t1_loop.trips, k0_off10 k = ![k.val / 8, 0, 0] := by decide +kernel
/-- and writes row `k / 8` of the results. -/
theorem off11_eq : ∀ k : Fin k0_t1_loop.trips, k0_off11 k = ![k.val / 8, 0] := by decide +kernel
/-- The condition of the next copy: four trips remain. -/
theorem cond1_iff : ∀ k : Fin k0_t1_loop.trips, k0_cond1 k = 1#1 ↔ k.val + 4 < 64 := by decide +kernel
/-- The condition of the agent's last trip: the eighth chunk. -/
theorem cond2_iff : ∀ k : Fin k0_t1_loop.trips, k0_cond2 k = 1#1 ↔ k.val % 8 = 7 := by decide +kernel

theorem off1_sl (k : Fin k0_t1_loop.trips) : k0_off1 k = cellOff (Ring.sl 4 k.val) := k0_off1_eq k
theorem off7_sl (k : Fin k0_t1_loop.trips) : k0_off7 k = cellOff (Ring.sl 4 k.val) := k0_off7_eq k
theorem off2_sl (k : Fin k0_t1_loop.trips) : k0_off2 k = slotOff (Ring.sl 4 k.val) := k0_off2_eq k
theorem off5_sl (k : Fin k0_t1_loop.trips) : k0_off5 k = slotOff (Ring.sl 4 k.val) := k0_off5_eq k
theorem off8_sl (k : Fin k0_t1_loop.trips) : k0_off8 k = slotOff (Ring.sl 4 k.val) := k0_off8_eq k
instance (k : Fin k0_t1_loop.trips) : ClosedOff (k0_off5 k) := ⟨slotOff (Ring.sl 4 k.val), off5_sl k⟩
instance (k : Fin k0_t1_loop.trips) : ClosedOff (k0_off2 k) := ⟨slotOff (Ring.sl 4 k.val), off2_sl k⟩
instance (k : Fin k0_t1_loop.trips) : ClosedOff (k0_off4 k) := ⟨![k.val / 8, 0], off4_eq k⟩
instance (k : Fin k0_t1_loop.trips) : ClosedOff (k0_off6 k) := ⟨![k.val % 8, 0], off6_eq k⟩
instance (k : Fin k0_t1_loop.trips) : ClosedOff (k0_off10 k) := ⟨![k.val / 8, 0, 0], off10_eq k⟩
instance (k : Fin k0_t1_loop.trips) : ClosedOff (k0_off11 k) := ⟨![k.val / 8, 0], off11_eq k⟩
theorem off3_bk (k : Fin k0_t1_loop.trips) : k0_off3 k = chunkOff (Ring.bk 64 k.val) := by
  rw [off3_eq]; unfold chunkOff; rw [Ring.bk_val (trip_lt k)]
theorem off9_bk (k : Fin k0_t1_loop.trips) (hk : k.val + 4 < 64) : k0_off9 k = chunkOff (Ring.bk 64 (k.val + 4)) := by
  rw [off9_eq]; unfold chunkOff; rw [Ring.bk_val hk]

theorem cell_congr {off : Fin 1 → Nat} {s : Fin 4} (e : off = cellOff s) (hh) :
    (cc0_scratch2.slice (Rect.unit (s := S4) off S1.size hh)).squeeze S_ squeezes_S1_S_ = cell s :=
  congrArg (fun A : DmaSems sig S1 => A.squeeze S_ squeezes_S1_S_) (SemArray.slice_unit_congr _ e _ _)
theorem slot_congr {off : Fin 3 → Nat} {s : Fin 4} (e : off = slotOff s) (hh hs) :
    (bufM.slice (Rect.unit (s := S4x256x2048) off S1x256x2048.size hh) hs).squeeze S256x2048 squeezes_S1x256x2048_S256x2048 = slot s :=
  congrArg (fun M : Memref sig .tc .vmem S1x256x2048 .f32 => M.squeeze S256x2048 squeezes_S1x256x2048_S256x2048) (Memref.slice_unit_congr _ e _ _ _ _)
theorem chunk_congr {off : Fin 3 → Nat} {b : Fin 64} (e : off = chunkOff b) (hh hs) :
    (wM.slice (Rect.unit (s := S8x2048x2048) off S1x256x2048.size hh) hs).squeeze S256x2048 squeezes_S1x256x2048_S256x2048 = chunk b :=
  congrArg (fun M : Memref sig .tc .hbm S1x256x2048 .f32 => M.squeeze S256x2048 squeezes_S1x256x2048_S256x2048) (Memref.slice_unit_congr _ e _ _ _ _)

/-! The four copies started before the loop, under those names. -/
@[sl_canon] theorem cell_at0 (hh) : (cc0_scratch2.slice (Rect.unit (s := S4) ![0] S1.size hh)).squeeze S_ squeezes_S1_S_ = cell 0 := cell_congr (s := 0) (by decide) _
@[sl_canon] theorem cell_at1 (hh) : (cc0_scratch2.slice (Rect.unit (s := S4) ![1] S1.size hh)).squeeze S_ squeezes_S1_S_ = cell 1 := cell_congr (s := 1) (by decide) _
@[sl_canon] theorem cell_at2 (hh) : (cc0_scratch2.slice (Rect.unit (s := S4) ![2] S1.size hh)).squeeze S_ squeezes_S1_S_ = cell 2 := cell_congr (s := 2) (by decide) _
@[sl_canon] theorem cell_at3 (hh) : (cc0_scratch2.slice (Rect.unit (s := S4) ![3] S1.size hh)).squeeze S_ squeezes_S1_S_ = cell 3 := cell_congr (s := 3) (by decide) _
@[sl_canon] theorem slot_at0 (hh hs) : (bufM.slice (Rect.unit (s := S4x256x2048) ![0, 0, 0] S1x256x2048.size hh) hs).squeeze S256x2048 squeezes_S1x256x2048_S256x2048 = slot 0 := slot_congr (s := 0) (by decide) _ _
@[sl_canon] theorem slot_at1 (hh hs) : (bufM.slice (Rect.unit (s := S4x256x2048) ![1, 0, 0] S1x256x2048.size hh) hs).squeeze S256x2048 squeezes_S1x256x2048_S256x2048 = slot 1 := slot_congr (s := 1) (by decide) _ _
@[sl_canon] theorem slot_at2 (hh hs) : (bufM.slice (Rect.unit (s := S4x256x2048) ![2, 0, 0] S1x256x2048.size hh) hs).squeeze S256x2048 squeezes_S1x256x2048_S256x2048 = slot 2 := slot_congr (s := 2) (by decide) _ _
@[sl_canon] theorem slot_at3 (hh hs) : (bufM.slice (Rect.unit (s := S4x256x2048) ![3, 0, 0] S1x256x2048.size hh) hs).squeeze S256x2048 squeezes_S1x256x2048_S256x2048 = slot 3 := slot_congr (s := 3) (by decide) _ _
@[sl_canon] theorem chunk_at0 (hh hs) : (wM.slice (Rect.unit (s := S8x2048x2048) ![0, 0, 0] S1x256x2048.size hh) hs).squeeze S256x2048 squeezes_S1x256x2048_S256x2048 = chunk 0 := chunk_congr (b := 0) (by decide) _ _
@[sl_canon] theorem chunk_at1 (hh hs) : (wM.slice (Rect.unit (s := S8x2048x2048) ![0, 256, 0] S1x256x2048.size hh) hs).squeeze S256x2048 squeezes_S1x256x2048_S256x2048 = chunk 1 := chunk_congr (b := 1) (by decide) _ _
@[sl_canon] theorem chunk_at2 (hh hs) : (wM.slice (Rect.unit (s := S8x2048x2048) ![0, 512, 0] S1x256x2048.size hh) hs).squeeze S256x2048 squeezes_S1x256x2048_S256x2048 = chunk 2 := chunk_congr (b := 2) (by decide) _ _
@[sl_canon] theorem chunk_at3 (hh hs) : (wM.slice (Rect.unit (s := S8x2048x2048) ![0, 768, 0] S1x256x2048.size hh) hs).squeeze S256x2048 squeezes_S1x256x2048_S256x2048 = chunk 3 := chunk_congr (b := 3) (by decide) _ _

/-! Trip `k`'s cuts, under those names. -/
@[sl_canon] theorem cell_waited (k : Fin k0_t1_loop.trips) (hh) :
    (cc0_scratch2.slice (Rect.unit (s := S4) (k0_off1 k) S1.size hh)).squeeze S_ squeezes_S1_S_ = cell (Ring.sl 4 k.val) := cell_congr (off1_sl k) _
@[sl_canon] theorem cell_issued (k : Fin k0_t1_loop.trips) (hh) :
    (cc0_scratch2.slice (Rect.unit (s := S4) (k0_off7 k) S1.size hh)).squeeze S_ squeezes_S1_S_ = cell (Ring.sl 4 k.val) := cell_congr (off7_sl k) _
@[sl_canon] theorem slot_waited (k : Fin k0_t1_loop.trips) (hh hs) :
    (bufM.slice (Rect.unit (s := S4x256x2048) (k0_off2 k) S1x256x2048.size hh) hs).squeeze S256x2048 squeezes_S1x256x2048_S256x2048 = slot (Ring.sl 4 k.val) := slot_congr (off2_sl k) _ _
@[sl_canon] theorem slot_issued (k : Fin k0_t1_loop.trips) (hh hs) :
    (bufM.slice (Rect.unit (s := S4x256x2048) (k0_off8 k) S1x256x2048.size hh) hs).squeeze S256x2048 squeezes_S1x256x2048_S256x2048 = slot (Ring.sl 4 k.val) := slot_congr (off8_sl k) _ _
@[sl_canon] theorem chunk_waited (k : Fin k0_t1_loop.trips) (hh hs) :
    (wM.slice (Rect.unit (s := S8x2048x2048) (k0_off3 k) S1x256x2048.size hh) hs).squeeze S256x2048 squeezes_S1x256x2048_S256x2048 = chunk (Ring.bk 64 k.val) := chunk_congr (off3_bk k) _ _
@[sl_canon] theorem chunk_issued (k : Fin k0_t1_loop.trips) (hk : k.val + 4 < 64) (hh hs) :
    (wM.slice (Rect.unit (s := S8x2048x2048) (k0_off9 k) S1x256x2048.size hh) hs).squeeze S256x2048 squeezes_S1x256x2048_S256x2048 = chunk (Ring.bk 64 (k.val + 4)) := chunk_congr (off9_bk k hk) _ _

/-! ## The pieces held: a chunk at home, a slot, its semaphore, a copy under way -/

section Pieces
variable (c : Dev nD) (XA : Buf (Elt F) (wM.view.loc (c : Thread nD τ)))

/-- Slot `s`'s semaphore at zero. -/
abbrev cellP (s : Fin 4) : sProp 𝕄 := semVal ((c : Thread nD τ), SemLoc.dma (cell s).sem) 0
/-- Slot `s` held at contents `f`. -/
abbrev slotP (s : Fin 4) (f : Buf (Elt F) ((slot s).view.loc (c : Thread nD τ))) : sProp 𝕄 :=
  (slot s).view.loc (c : Thread nD τ) ↦[(slot s).view.set]{fullShare} f
/-- Chunk `b` held at the weights' contents. -/
abbrev homeP (b : Fin 64) : sProp 𝕄 := (chunk b).view.loc (c : Thread nD τ) ↦[(chunk b).view.set]{fullShare} XA
/-- Chunk `b`'s words as its copy carries them. -/
abbrev payload (b : Fin 64) : S256x2048.Idx → Elt F .f32 := ReadAs.same.apply ((chunk b).view.read (Elt F) XA)
/-- What chunk `b`'s copy leaves in slot `s` over contents `f`. -/
abbrev landed (s : Fin 4) (b : Fin 64) (f : Buf (Elt F) ((slot s).view.loc (c : Thread nD τ))) : Buf (Elt F) ((slot s).view.loc (c : Thread nD τ)) :=
  (slot s).view.writes (Elt F) f [⟨Rect.whole S256x2048, payload c XA b⟩]
/-- The units one copy adds to its semaphore. -/
abbrev NN (_ : Fin 4) : ℕ := 65536
/-- Chunk `b` on its way into slot `s`, which held `f`: the semaphore's credit gives back both. -/
abbrev flightP (s : Fin 4) (b : Fin 64) (f : Buf (Elt F) ((slot s).view.loc (c : Thread nD τ))) : sProp 𝕄 :=
  Transfers.Flight countersEmb (c : Thread nD τ) (SemLoc.dma (cell s).sem) () (NN s) iprop(slotP c s (landed c XA s b f) ∗ homeP c XA b)
end Pieces

/-! ## What the kernel computes, as functions of its arrays -/

section Values
variable (X : S8x2048.Idx → Elt F .f32) (W : S8x2048x2048.Idx → Elt F .f32)
  (B G : S8x8x256.Idx → Elt F .f32)

/-- Row `a` of the inputs. -/
def xPart (a : Fin 8) : Vec F S1x2048 .f32 := fun i => X (ix2 (n0 := 8) (n1 := 2048) a (i 1))
/-- Chunk `b` of the weights. -/
def wPart (b : Fin 64) : Vec F S1x256x2048 .f32 := fun i =>
  W (ix3 (n0 := 8) (n1 := 2048) (n2 := 2048) ⟨b.val / 8, by omega⟩
    ⟨b.val % 8 * 256 + (i 1).val, by have : (i 1).val < 256 := (i 1).isLt; omega⟩ (i 2))
/-- Slab `a` of the biases or of the noise. -/
def slab (a : Fin 8) : Vec F S1x8x256 .f32 := fun i => B (ix3 (n0 := 8) (n1 := 8) (n2 := 256) a (i 1) (i 2))
/-- The 256 products of chunk `b` with its agent's inputs. -/
def rowOf (b : Fin 64) : Vec F S1x256 .f32 := k0_pay8 (xPart X ⟨b.val / 8, by omega⟩) (wPart W b)
/-- All of agent `a`'s products, chunk by chunk. -/
def accOf (a : Fin 8) : Vec F S8x256 .f32 := fun i => rowOf X W (Ring.bk 64 (8 * a.val + (i 0).val)) (ix2 (n0 := 1) (n1 := 256) 0 (i 1))
/-- The row of agent `a`'s actions. -/
def actOf (a : Fin 8) : IVec S1x128 32 := k0_pay7 (F := F) (accOf X W a) (slab B a) (slab G a)
/-- The row of agent `a`'s log-probabilities. -/
def lpOf (a : Fin 8) : Vec F S1x128 .f32 :=
  k0_pay1 (k0_pay5 (accOf X W a) (slab B a) (slab G a)) (k0_pay6 (accOf X W a) (slab B a))
/-- The whole array of actions. -/
def actAll : S8x128.Idx → Elt F .i32 := fun i => actOf X W B G (i 0) (ix2 (n0 := 1) (n1 := 128) 0 (i 1))
/-- The whole array of log-probabilities. -/
def lpAll : S8x128.Idx → Elt F .f32 := fun i => lpOf X W B G (i 0) (ix2 (n0 := 1) (n1 := 128) 0 (i 1))
end Values

section Trip
variable (c : Dev nD) (XA : Buf (Elt F) (wM.view.loc (c : Thread nD τ)))
  (arg0 : Memref sig .tc .vmem S8x2048 .f32) (harg0 : arg0.IsWhole)
  (arg2 : Memref sig .tc .vmem S8x8x256 .f32) (harg2 : arg2.IsWhole)
  (arg3 : Memref sig .tc .vmem S8x8x256 .f32) (harg3 : arg3.IsWhole)
  (arg4 : Memref sig .tc .vmem S8x128 .i32) (harg4 : arg4.IsWhole)
  (arg5 : Memref sig .tc .vmem S8x128 .f32) (harg5 : arg5.IsWhole)
  (g0 : Buf (Elt F) (arg0.view.loc (c : Thread nD τ)))
  (g2 : Buf (Elt F) (arg2.view.loc (c : Thread nD τ)))
  (g3 : Buf (Elt F) (arg3.view.loc (c : Thread nD τ)))

/-- One trip of the loop. -/
abbrev trip (k : Fin k0_t1_loop.trips) : Prog (TpuEff nD τ sig (Elt F) Λ₀ .tc) Unit :=
  k0_t1_body (F := F) arg0 harg0 wM (Memref.isWhole_whole _) arg2 harg2 arg3 harg3 arg4 harg4 arg5 harg5 bufM (Memref.isWhole_whole _) accM (Memref.isWhole_whole _) cc0_scratch2 0#32 1#32 k ()

/-- A whole buffer held at contents `f`. -/
abbrev heldP {S : Shape} {t : EltTy} (m : Memref sig .tc .vmem S t) (f : Buf (Elt F) (m.view.loc (c : Thread nD τ))) : sProp 𝕄 :=
  m.view.loc (c : Thread nD τ) ↦[m.view.set]{fullShare} f
/-- The buffers a trip only reads: inputs, biases, noise. -/
abbrev readP : sProp 𝕄 := iprop(heldP c arg0 g0 ∗ heldP c arg2 g2 ∗ heldP c arg3 g3)

/-- The inputs, biases, noise and weights as functions of the index. -/
abbrev xV : S8x2048.Idx → Elt F .f32 := arg0.view.read (Elt F) g0
abbrev bV : S8x8x256.Idx → Elt F .f32 := arg2.view.read (Elt F) g2
abbrev gV : S8x8x256.Idx → Elt F .f32 := arg3.view.read (Elt F) g3
abbrev wV : S8x2048x2048.Idx → Elt F .f32 := wM.view.read (Elt F) XA

/-- Before trip `k` the logits' scratch holds the rows the current agent's earlier trips computed. -/
def AccOK (k : ℕ) (fa : Buf (Elt F) (accM.view.loc (c : Thread nD τ))) : Prop :=
  ∀ i : S8x256.Idx, (i 0).val < k % 8 →
    accM.view.read (Elt F) fa i = rowOf (xV c arg0 g0) (wV c XA) (Ring.bk 64 (8 * (k / 8) + (i 0).val)) (ix2 (n0 := 1) (n1 := 256) 0 (i 1))
/-- Before trip `k` the actions' buffer holds the rows of the agents already done. -/
def ActOK (k : ℕ) (f4 : Buf (Elt F) (arg4.view.loc (c : Thread nD τ))) : Prop :=
  ∀ i : S8x128.Idx, (i 0).val < k / 8 →
    arg4.view.read (Elt F) f4 i = actAll (xV c arg0 g0) (wV c XA) (bV c arg2 g2) (gV c arg3 g3) i
/-- Before trip `k` the log-probabilities' buffer holds the rows of the agents already done. -/
def LpOK (k : ℕ) (f5 : Buf (Elt F) (arg5.view.loc (c : Thread nD τ))) : Prop :=
  ∀ i : S8x128.Idx, (i 0).val < k / 8 →
    arg5.view.read (Elt F) f5 i = lpAll (xV c arg0 g0) (wV c XA) (bV c arg2 g2) (gV c arg3 g3) i

/-- What trip `k` reads out of its slot. -/
abbrev slotRead (k : Fin k0_t1_loop.trips) : Vec F S1x256x2048 .f32 :=
  bufM.view.readAt (Elt F) (Rect.unit (s := S4x256x2048) (k0_off5 k) S1x256x2048.size (k0_off5_inb k)).toLoadRect
    (landed c XA (Ring.sl 4 k.val) (Ring.bk 64 k.val) (slot (Ring.sl 4 k.val)).view.junk)
/-- What trip `k` reads out of the inputs. -/
abbrev xRead (k : Fin k0_t1_loop.trips) : Vec F S1x2048 .f32 :=
  arg0.view.readAt (Elt F) (Rect.unit (s := S8x2048) (k0_off4 k) S1x2048.size (k0_off4_inb k)).toLoadRect g0
/-- The logits' scratch after trip `k`'s store. -/
abbrev accNext (k : Fin k0_t1_loop.trips) (fa : Buf (Elt F) (accM.view.loc (c : Thread nD τ))) : Buf (Elt F) (accM.view.loc (c : Thread nD τ)) :=
  accM.view.writes (Elt F) fa [⟨Rect.unit (s := S8x256) (k0_off6 k) S1x256.size (k0_off6_inb k), k0_pay8 (xRead c arg0 g0 k) (slotRead c XA k)⟩]
/-- What the agent's last trip reads out of the logits' scratch, the biases and the noise. -/
abbrev accRead (k : Fin k0_t1_loop.trips) (fa : Buf (Elt F) (accM.view.loc (c : Thread nD τ))) : Vec F S8x256 .f32 :=
  accM.view.readAt (Elt F) (Rect.unit (s := S8x256) ![0, 0] S8x256.size inb_S8x256_S8x256_0_0).toLoadRect (accNext c XA arg0 g0 k fa)
abbrev bRead (k : Fin k0_t1_loop.trips) (h : k0_cond2 k = 1#1) : Vec F S1x8x256 .f32 :=
  arg2.view.readAt (Elt F) (Rect.unit (s := S8x8x256) (k0_off10 k) S1x8x256.size (k0_off10_inb k h)).toLoadRect g2
/-- The actions' buffer after an agent's last trip. -/
abbrev actNext (k : Fin k0_t1_loop.trips) (h : k0_cond2 k = 1#1) (fa : Buf (Elt F) (accM.view.loc (c : Thread nD τ)))
    (f4 : Buf (Elt F) (arg4.view.loc (c : Thread nD τ))) : Buf (Elt F) (arg4.view.loc (c : Thread nD τ)) :=
  arg4.view.writes (Elt F) f4 [⟨Rect.unit (s := S8x128) (k0_off11 k) S1x128.size (k0_off11_inb k h),
    k0_pay7 (F := F) (accRead c XA arg0 g0 k fa) (bRead c arg2 g2 k h) (bRead c arg3 g3 k h)⟩]
/-- The log-probabilities' buffer after an agent's last trip. -/
abbrev lpNext (k : Fin k0_t1_loop.trips) (h : k0_cond2 k = 1#1) (fa : Buf (Elt F) (accM.view.loc (c : Thread nD τ)))
    (f5 : Buf (Elt F) (arg5.view.loc (c : Thread nD τ))) : Buf (Elt F) (arg5.view.loc (c : Thread nD τ)) :=
  arg5.view.writes (Elt F) f5 [⟨Rect.unit (s := S8x128) (k0_off11 k) S1x128.size (k0_off11_inb k h),
    k0_pay1 (k0_pay5 (accRead c XA arg0 g0 k fa) (bRead c arg2 g2 k h) (bRead c arg3 g3 k h)) (k0_pay6 (accRead c XA arg0 g0 k fa) (bRead c arg2 g2 k h))⟩]

/-! ### Those reads are the functions above -/

/-- The inputs' row is row `k / 8`. -/
theorem xRead_eq (k : Fin k0_t1_loop.trips) (a : Fin 8) (ha : a.val = k.val / 8) : xRead c arg0 g0 k = xPart (xV c arg0 g0) a := by
  have inb' : ∀ b, (![k.val / 8, 0] : Fin 2 → ℕ) b + S1x2048.size b ≤ S8x2048.size b := by
    rw [← off4_eq k]; exact k0_off4_inb k
  refine (View.readAt_unit arg0.view g0 (k0_off4_inb k) (off4_eq k) inb').trans ?_
  funext i
  refine congrArg (arg0.view.read (Elt F) g0) (funext fun b => Fin.ext ?_)
  have h0 : (i 0).val = 0 := by have : (i 0).val < 1 := (i 0).isLt; omega
  fin_cases b
  · show k.val / 8 + 1 * (i 0).val = a.val; omega
  · show 0 + 1 * (i 1).val = (i 1).val; omega

/-- The biases' slab is slab `k / 8`. -/
theorem bRead_eq (k : Fin k0_t1_loop.trips) (h : k0_cond2 k = 1#1) (a : Fin 8) (ha : a.val = k.val / 8) :
    bRead c arg2 g2 k h = slab (bV c arg2 g2) a := by
  have inb' : ∀ b, (![k.val / 8, 0, 0] : Fin 3 → ℕ) b + S1x8x256.size b ≤ S8x8x256.size b := by
    rw [← off10_eq k]; exact k0_off10_inb k h
  refine (View.readAt_unit arg2.view g2 (k0_off10_inb k h) (off10_eq k) inb').trans ?_
  funext i
  refine congrArg (arg2.view.read (Elt F) g2) (funext fun b => Fin.ext ?_)
  have h0 : (i 0).val = 0 := by have : (i 0).val < 1 := (i 0).isLt; omega
  fin_cases b
  · show k.val / 8 + 1 * (i 0).val = a.val; omega
  · show 0 + 1 * (i 1).val = (i 1).val; omega
  · show 0 + 1 * (i 2).val = (i 2).val; omega

/-- What a slot gives back after its copy landed is the chunk. -/
theorem slotRead_eq (k : Fin k0_t1_loop.trips) : slotRead c XA k = wPart (wV c XA) (Ring.bk 64 k.val) := by
  refine (View.readAt_unit_congr bufM.view (off5_sl k) _ (slotOff_inb (Ring.sl 4 k.val)) _).trans ?_
  have e : (slot (Ring.sl 4 k.val)).view.read (Elt F) (landed c XA (Ring.sl 4 k.val) (Ring.bk 64 k.val) (slot (Ring.sl 4 k.val)).view.junk)
      = payload c XA (Ring.bk 64 k.val) := View.read_writes_whole _ _ _
  have hn : S256x2048.numel = S1x256x2048.numel := squeezes_S1x256x2048_S256x2048.numel_eq
  funext i
  have e2 : bufM.view.read (Elt F) (landed c XA (Ring.sl 4 k.val) (Ring.bk 64 k.val) (slot (Ring.sl 4 k.val)).view.junk)
        ((Rect.unit (s := S4x256x2048) (slotOff (Ring.sl 4 k.val)) S1x256x2048.size (slotOff_inb _)).emb (Shape.reshapeEquiv hn ((Shape.reshapeEquiv hn).symm i)))
      = wM.view.read (Elt F) XA ((Rect.unit (s := S8x2048x2048) (chunkOff (Ring.bk 64 k.val)) S1x256x2048.size (chunkOff_inb _)).emb
          (Shape.reshapeEquiv hn ((Shape.reshapeEquiv hn).symm i))) := congrFun e ((Shape.reshapeEquiv hn).symm i)
  rw [Equiv.apply_symm_apply] at e2
  refine e2.trans (congrArg (wM.view.read (Elt F) XA) (funext fun b => Fin.ext ?_))
  have h0 : (i 0).val = 0 := by have : (i 0).val < 1 := (i 0).isLt; omega
  fin_cases b
  · show (Ring.bk 64 k.val).val / 8 + 1 * (i 0).val = (Ring.bk 64 k.val).val / 8; omega
  · show (Ring.bk 64 k.val).val % 8 * 256 + 1 * (i 1).val = (Ring.bk 64 k.val).val % 8 * 256 + (i 1).val; omega
  · show 0 + 1 * (i 2).val = (i 2).val; omega

/-- After trip `k`'s store the scratch holds one row more. -/
theorem accNext_read (k : Fin k0_t1_loop.trips) (fa : Buf (Elt F) (accM.view.loc (c : Thread nD τ))) (h : AccOK c XA arg0 g0 k.val fa)
    (i : S8x256.Idx) (hi : (i 0).val ≤ k.val % 8) :
    accM.view.read (Elt F) (accNext c XA arg0 g0 k fa) i
      = rowOf (xV c arg0 g0) (wV c XA) (Ring.bk 64 (8 * (k.val / 8) + (i 0).val)) (ix2 (n0 := 1) (n1 := 256) 0 (i 1)) := by
  have hk := trip_lt k
  by_cases he : (i 0).val = k.val % 8
  · refine (View.read_writes_cons_unit_of_mem accM.view fa (k0_off6_inb k) _ [] i (ix2 (n0 := 1) (n1 := 256) 0 (i 1)) (off6_eq k) ?_).trans ?_
    · intro b; fin_cases b
      · show (i 0).val = k.val % 8 + 0; omega
      · show (i 1).val = 0 + (i 1).val; omega
    · have hb : Ring.bk 64 (8 * (k.val / 8) + (i 0).val) = Ring.bk 64 k.val := by rw [he, Nat.div_add_mod]
      rw [hb, slotRead_eq, xRead_eq c arg0 g0 k ⟨(Ring.bk 64 k.val).val / 8, by omega⟩ (by show (Ring.bk 64 k.val).val / 8 = _; rw [Ring.bk_val hk])]
      rfl
  · refine (View.read_writes_cons_unit_of_not_mem accM.view fa (k0_off6_inb k) _ [] i (off6_eq k) 0 (Or.inl ?_)).trans ?_
    · show (i 0).val < k.val % 8; omega
    · exact h i (by omega)

/-- So before the next trip the scratch is as it should be, -/
theorem accOK_next (k : Fin k0_t1_loop.trips) (fa : Buf (Elt F) (accM.view.loc (c : Thread nD τ))) (h : AccOK c XA arg0 g0 k.val fa) :
    AccOK c XA arg0 g0 (k.val + 1) (accNext c XA arg0 g0 k fa) := by
  intro i hi
  by_cases h7 : k.val % 8 = 7
  · omega
  · rw [accNext_read c XA arg0 g0 k fa h i (by omega), show (k.val + 1) / 8 = k.val / 8 by omega]

/-- and at an agent's last trip it holds all of the agent's products. -/
theorem accRead_eq (k : Fin k0_t1_loop.trips) (fa : Buf (Elt F) (accM.view.loc (c : Thread nD τ))) (h : AccOK c XA arg0 g0 k.val fa)
    (h7 : k.val % 8 = 7) (a : Fin 8) (ha : a.val = k.val / 8) :
    accRead c XA arg0 g0 k fa = accOf (xV c arg0 g0) (wV c XA) a := by
  refine (View.readAt_unit_congr accM.view (show (![0, 0] : Fin 2 → ℕ) = ![0, 0] from rfl) _ inb_S8x256_S8x256_0_0 _).trans ?_
  funext i
  have hi : (i 0).val < 8 := (i 0).isLt
  have e := accNext_read c XA arg0 g0 k fa h i (by omega)
  rw [← ha] at e
  refine Eq.trans (congrArg (accM.view.read (Elt F) (accNext c XA arg0 g0 k fa)) (funext fun b => Fin.ext ?_)) e
  fin_cases b
  · show 0 + 1 * (i 0).val = (i 0).val; omega
  · show 0 + 1 * (i 1).val = (i 1).val; omega

/-- A trip that is not an agent's last leaves the finished rows as they were, -/
theorem actOK_same (k : Fin k0_t1_loop.trips) (h7 : ¬ k.val % 8 = 7) (f4 : Buf (Elt F) (arg4.view.loc (c : Thread nD τ)))
    (h : ActOK c XA arg0 arg2 arg3 arg4 g0 g2 g3 k.val f4) : ActOK c XA arg0 arg2 arg3 arg4 g0 g2 g3 (k.val + 1) f4 :=
  fun i hi => h i (by omega)
theorem lpOK_same (k : Fin k0_t1_loop.trips) (h7 : ¬ k.val % 8 = 7) (f5 : Buf (Elt F) (arg5.view.loc (c : Thread nD τ)))
    (h : LpOK c XA arg0 arg2 arg3 arg5 g0 g2 g3 k.val f5) : LpOK c XA arg0 arg2 arg3 arg5 g0 g2 g3 (k.val + 1) f5 :=
  fun i hi => h i (by omega)

/-- and an agent's last trip adds its row of actions -/
theorem actOK_next (k : Fin k0_t1_loop.trips) (hc : k0_cond2 k = 1#1) (h7 : k.val % 8 = 7) (fa : Buf (Elt F) (accM.view.loc (c : Thread nD τ)))
    (ha : AccOK c XA arg0 g0 k.val fa) (f4 : Buf (Elt F) (arg4.view.loc (c : Thread nD τ)))
    (h : ActOK c XA arg0 arg2 arg3 arg4 g0 g2 g3 k.val f4) :
    ActOK c XA arg0 arg2 arg3 arg4 g0 g2 g3 (k.val + 1) (actNext c XA arg0 arg2 arg3 arg4 g0 g2 g3 k hc fa f4) := by
  have hk := trip_lt k
  intro i hi
  by_cases he : (i 0).val = k.val / 8
  · refine (View.read_writes_cons_unit_of_mem arg4.view f4 (k0_off11_inb k hc) _ [] i (ix2 (n0 := 1) (n1 := 128) 0 (i 1)) (off11_eq k) ?_).trans ?_
    · intro b; fin_cases b
      · show (i 0).val = k.val / 8 + 0; omega
      · show (i 1).val = 0 + (i 1).val; omega
    · rw [accRead_eq c XA arg0 g0 k fa ha h7 (i 0) he, bRead_eq c arg2 g2 k hc (i 0) he, bRead_eq c arg3 g3 k hc (i 0) he]
      rfl
  · refine (View.read_writes_cons_unit_of_not_mem arg4.view f4 (k0_off11_inb k hc) _ [] i (off11_eq k) 0 (Or.inl ?_)).trans ?_
    · show (i 0).val < k.val / 8; omega
    · exact h i (by omega)
/-- and its row of log-probabilities. -/
theorem lpOK_next (k : Fin k0_t1_loop.trips) (hc : k0_cond2 k = 1#1) (h7 : k.val % 8 = 7) (fa : Buf (Elt F) (accM.view.loc (c : Thread nD τ)))
    (ha : AccOK c XA arg0 g0 k.val fa) (f5 : Buf (Elt F) (arg5.view.loc (c : Thread nD τ)))
    (h : LpOK c XA arg0 arg2 arg3 arg5 g0 g2 g3 k.val f5) :
    LpOK c XA arg0 arg2 arg3 arg5 g0 g2 g3 (k.val + 1) (lpNext c XA arg0 arg2 arg3 arg5 g0 g2 g3 k hc fa f5) := by
  have hk := trip_lt k
  intro i hi
  by_cases he : (i 0).val = k.val / 8
  · refine (View.read_writes_cons_unit_of_mem arg5.view f5 (k0_off11_inb k hc) _ [] i (ix2 (n0 := 1) (n1 := 128) 0 (i 1)) (off11_eq k) ?_).trans ?_
    · intro b; fin_cases b
      · show (i 0).val = k.val / 8 + 0; omega
      · show (i 1).val = 0 + (i 1).val; omega
    · rw [accRead_eq c XA arg0 g0 k fa ha h7 (i 0) he, bRead_eq c arg2 g2 k hc (i 0) he, bRead_eq c arg3 g3 k hc (i 0) he]
      rfl
  · refine (View.read_writes_cons_unit_of_not_mem arg5.view f5 (k0_off11_inb k hc) _ [] i (off11_eq k) 0 (Or.inl ?_)).trans ?_
    · show (i 0).val < k.val / 8; omega
    · exact h i (by omega)

/-! ### One trip -/

/-- The contents the loop carries, before trip `k`: the scratch of logits and both results, as far as computed. -/
def stateP (k : ℕ) : sProp 𝕄 :=
  iprop(∃ (fa : Buf (Elt F) (accM.view.loc (c : Thread nD τ))) (f4 : Buf (Elt F) (arg4.view.loc (c : Thread nD τ))) (f5 : Buf (Elt F) (arg5.view.loc (c : Thread nD τ))),
    ⌜AccOK c XA arg0 g0 k fa ∧ ActOK c XA arg0 arg2 arg3 arg4 g0 g2 g3 k f4 ∧ LpOK c XA arg0 arg2 arg3 arg5 g0 g2 g3 k f5⌝
    ∗ heldP c accM fa ∗ heldP c arg4 f4 ∗ heldP c arg5 f5)

/-- The slot of chunk `j`: the chunk on its way into it; past the last chunk, the slot and its semaphore at rest. -/
def roleP (j : ℕ) : sProp 𝕄 :=
  if j < 64 then iprop(∃ f, flightP c XA (Ring.sl 4 j) (Ring.bk 64 j) f)
  else iprop((∃ f, slotP c (Ring.sl 4 j) f) ∗ cellP c (Ring.sl 4 j))

theorem roleP_flight {j : ℕ} (h : j < 64) : roleP c XA j = iprop(∃ f, flightP c XA (Ring.sl 4 j) (Ring.bk 64 j) f) := if_pos h
theorem roleP_rest {j : ℕ} (h : ¬ j < 64) : roleP c XA j = iprop((∃ f, slotP c (Ring.sl 4 j) f) ∗ cellP c (Ring.sl 4 j)) := if_neg h

/-- The copy a trip starts, into the slot as the last copy left it. -/
theorem flight_again (s : Fin 4) (b b' : Fin 64) :
    flightP c XA s b' ((slot s).view.writes (Elt F) (slot s).view.junk [⟨Rect.whole S256x2048, payload c XA b⟩])
      = Transfers.Flight countersEmb (c : Thread nD τ) (SemLoc.dma (cell s).sem) () 65536
          iprop(((slot s).view.loc (c : Thread nD τ) ↦[(slot s).view.set]{fullShare}
                  (slot s).view.writes (Elt F) (slot s).view.junk [⟨Rect.whole S256x2048, payload c XA b'⟩, ⟨Rect.whole S256x2048, payload c XA b⟩])
                ∗ homeP c XA b') := by
  simp only [flightP, landed, slotP, NN, View.writes]

/-- What one trip takes and gives, but for the chunks at home. -/
abbrev tripPre (k : ℕ) : sProp 𝕄 :=
  iprop(readP c arg0 arg2 arg3 g0 g2 g3 ∗ stateP c XA arg0 arg2 arg3 arg4 arg5 g0 g2 g3 k ∗ (∃ W, owes (c : Thread nD τ) 0 W))

/-- One trip, four or more before the end, not an agent's last: chunk `k` comes home, chunk `k + 4` leaves. -/
theorem trip_issue (k : Fin k0_t1_loop.trips) (h1 : k.val + 4 < 64) (h7 : ¬ k.val % 8 = 7) :
    iprop(tripPre c XA arg0 arg2 arg3 arg4 arg5 g0 g2 g3 k.val ∗ roleP c XA k.val ∗ homeP c XA (Ring.bk 64 (k.val + 4)))
      ⊢ wp frame (wpE (defs₀ (F := F)) 𝒱₀ (c : Thread nD τ) none) Set.univ (trip arg0 harg0 arg2 harg2 arg3 harg3 arg4 harg4 arg5 harg5 k)
        (fun _ => iprop(tripPre c XA arg0 arg2 arg3 arg4 arg5 g0 g2 g3 (k.val + 1) ∗ roleP c XA (k.val + 4) ∗ homeP c XA (Ring.bk 64 k.val))) := by
  have hc1 : k0_cond1 k = 1#1 := (cond1_iff k).2 h1
  have hc2 : ¬ k0_cond2 k = 1#1 := fun h => h7 ((cond2_iff k).1 h)
  unfold tripPre stateP
  rw [roleP_flight c XA (trip_lt k), roleP_flight c XA h1, Ring.sl_add]
  iintro ⟨⟨⟨H0, H2, H3⟩, ⟨%fa, %f4, %f5, %hok, HA, H4, H5⟩, ⟨%W, HW⟩⟩, ⟨%f, HF⟩, HH⟩
  obtain ⟨ha, h4, h5⟩ := hok
  dsimp only [trip]
  sl_unfold [k0_t1_body]
  sl_exec
  sl_step
  isplitl [H0 H2 H3 HA H4 H5 HW]
  · isplitl [H0 H2 H3]
    · isplitl [H0]; · iexact H0
      isplitl [H2]; · iexact H2
      iexact H3
    isplitl [HA H4 H5]
    · iexists (accNext c XA arg0 g0 k fa); iexists f4; iexists f5
      isplitr
      · ipureintro
        exact ⟨accOK_next c XA arg0 g0 k fa ha, actOK_same c XA arg0 arg2 arg3 arg4 g0 g2 g3 k h7 f4 h4, lpOK_same c XA arg0 arg2 arg3 arg5 g0 g2 g3 k h7 f5 h5⟩
      isplitl [HA]; · iexact HA
      isplitl [H4]; · iexact H4
      iexact H5
    iexists _; iexact HW
  isplitl [HF]
  · iexists ((slot (Ring.sl 4 k.val)).view.writes (Elt F) (slot (Ring.sl 4 k.val)).view.junk [⟨Rect.whole S256x2048, payload c XA (Ring.bk 64 k.val)⟩])
    irw [flight_again]
    iexact HF
  iexact HF_src

/-- One trip, four or more before the end, an agent's last: chunk `k` comes home, chunk `k + 4` leaves. -/
theorem trip_issue_last (k : Fin k0_t1_loop.trips) (h1 : k.val + 4 < 64) (h7 : k.val % 8 = 7) :
    iprop(tripPre c XA arg0 arg2 arg3 arg4 arg5 g0 g2 g3 k.val ∗ roleP c XA k.val ∗ homeP c XA (Ring.bk 64 (k.val + 4)))
      ⊢ wp frame (wpE (defs₀ (F := F)) 𝒱₀ (c : Thread nD τ) none) Set.univ (trip arg0 harg0 arg2 harg2 arg3 harg3 arg4 harg4 arg5 harg5 k)
        (fun _ => iprop(tripPre c XA arg0 arg2 arg3 arg4 arg5 g0 g2 g3 (k.val + 1) ∗ roleP c XA (k.val + 4) ∗ homeP c XA (Ring.bk 64 k.val))) := by
  have hc1 : k0_cond1 k = 1#1 := (cond1_iff k).2 h1
  have hc2 : k0_cond2 k = 1#1 := (cond2_iff k).2 h7
  unfold tripPre stateP
  rw [roleP_flight c XA (trip_lt k), roleP_flight c XA h1, Ring.sl_add]
  iintro ⟨⟨⟨H0, H2, H3⟩, ⟨%fa, %f4, %f5, %hok, HA, H4, H5⟩, ⟨%W, HW⟩⟩, ⟨%f, HF⟩, HH⟩
  obtain ⟨ha, h4, h5⟩ := hok
  dsimp only [trip]
  sl_unfold [k0_t1_body]
  sl_exec
  sl_step
  isplitl [H0 H2 H3 HA H4 H5 HW]
  · isplitl [H0 H2 H3]
    · isplitl [H0]; · iexact H0
      isplitl [H2]; · iexact H2
      iexact H3
    isplitl [HA H4 H5]
    · iexists (accNext c XA arg0 g0 k fa); iexists (actNext c XA arg0 arg2 arg3 arg4 g0 g2 g3 k hc2 fa f4); iexists (lpNext c XA arg0 arg2 arg3 arg5 g0 g2 g3 k hc2 fa f5)
      isplitr
      · ipureintro
        exact ⟨accOK_next c XA arg0 g0 k fa ha, actOK_next c XA arg0 arg2 arg3 arg4 g0 g2 g3 k hc2 h7 fa ha f4 h4, lpOK_next c XA arg0 arg2 arg3 arg5 g0 g2 g3 k hc2 h7 fa ha f5 h5⟩
      isplitl [HA]; · iexact HA
      isplitl [H4]; · iexact H4
      iexact H5
    iexists _; iexact HW
  isplitl [HF]
  · iexists ((slot (Ring.sl 4 k.val)).view.writes (Elt F) (slot (Ring.sl 4 k.val)).view.junk [⟨Rect.whole S256x2048, payload c XA (Ring.bk 64 k.val)⟩])
    irw [flight_again]
    iexact HF
  iexact HF_src

/-- One of the last four trips, not an agent's last: chunk `k` comes home, its slot rests. -/
theorem trip_drain (k : Fin k0_t1_loop.trips) (h1 : ¬ k.val + 4 < 64) (h7 : ¬ k.val % 8 = 7) :
    iprop(tripPre c XA arg0 arg2 arg3 arg4 arg5 g0 g2 g3 k.val ∗ roleP c XA k.val)
      ⊢ wp frame (wpE (defs₀ (F := F)) 𝒱₀ (c : Thread nD τ) none) Set.univ (trip arg0 harg0 arg2 harg2 arg3 harg3 arg4 harg4 arg5 harg5 k)
        (fun _ => iprop(tripPre c XA arg0 arg2 arg3 arg4 arg5 g0 g2 g3 (k.val + 1) ∗ roleP c XA (k.val + 4) ∗ homeP c XA (Ring.bk 64 k.val))) := by
  have hc1 : ¬ k0_cond1 k = 1#1 := fun h => h1 ((cond1_iff k).1 h)
  have hc2 : ¬ k0_cond2 k = 1#1 := fun h => h7 ((cond2_iff k).1 h)
  unfold tripPre stateP
  rw [roleP_flight c XA (trip_lt k), roleP_rest c XA h1, Ring.sl_add]
  iintro ⟨⟨⟨H0, H2, H3⟩, ⟨%fa, %f4, %f5, %hok, HA, H4, H5⟩, ⟨%W, HW⟩⟩, ⟨%f, HF⟩⟩
  obtain ⟨ha, h4, h5⟩ := hok
  dsimp only [trip]
  sl_unfold [k0_t1_body]
  sl_exec
  sl_step
  isplitl [H0 H2 H3 HA H4 H5 HW]
  · isplitl [H0 H2 H3]
    · isplitl [H0]; · iexact H0
      isplitl [H2]; · iexact H2
      iexact H3
    isplitl [HA H4 H5]
    · iexists (accNext c XA arg0 g0 k fa); iexists f4; iexists f5
      isplitr
      · ipureintro
        exact ⟨accOK_next c XA arg0 g0 k fa ha, actOK_same c XA arg0 arg2 arg3 arg4 g0 g2 g3 k h7 f4 h4, lpOK_same c XA arg0 arg2 arg3 arg5 g0 g2 g3 k h7 f5 h5⟩
      isplitl [HA]; · iexact HA
      isplitl [H4]; · iexact H4
      iexact H5
    iexists _; iexact HW
  isplitl [HF HF_dst]
  · isplitl [HF_dst]; · iexists _; iexact HF_dst
    iexact HF
  iexact HF_src

/-- One of the last four trips, an agent's last: chunk `k` comes home, its slot rests. -/
theorem trip_drain_last (k : Fin k0_t1_loop.trips) (h1 : ¬ k.val + 4 < 64) (h7 : k.val % 8 = 7) :
    iprop(tripPre c XA arg0 arg2 arg3 arg4 arg5 g0 g2 g3 k.val ∗ roleP c XA k.val)
      ⊢ wp frame (wpE (defs₀ (F := F)) 𝒱₀ (c : Thread nD τ) none) Set.univ (trip arg0 harg0 arg2 harg2 arg3 harg3 arg4 harg4 arg5 harg5 k)
        (fun _ => iprop(tripPre c XA arg0 arg2 arg3 arg4 arg5 g0 g2 g3 (k.val + 1) ∗ roleP c XA (k.val + 4) ∗ homeP c XA (Ring.bk 64 k.val))) := by
  have hc1 : ¬ k0_cond1 k = 1#1 := fun h => h1 ((cond1_iff k).1 h)
  have hc2 : k0_cond2 k = 1#1 := (cond2_iff k).2 h7
  unfold tripPre stateP
  rw [roleP_flight c XA (trip_lt k), roleP_rest c XA h1, Ring.sl_add]
  iintro ⟨⟨⟨H0, H2, H3⟩, ⟨%fa, %f4, %f5, %hok, HA, H4, H5⟩, ⟨%W, HW⟩⟩, ⟨%f, HF⟩⟩
  obtain ⟨ha, h4, h5⟩ := hok
  dsimp only [trip]
  sl_unfold [k0_t1_body]
  sl_exec
  sl_step
  isplitl [H0 H2 H3 HA H4 H5 HW]
  · isplitl [H0 H2 H3]
    · isplitl [H0]; · iexact H0
      isplitl [H2]; · iexact H2
      iexact H3
    isplitl [HA H4 H5]
    · iexists (accNext c XA arg0 g0 k fa); iexists (actNext c XA arg0 arg2 arg3 arg4 g0 g2 g3 k hc2 fa f4); iexists (lpNext c XA arg0 arg2 arg3 arg5 g0 g2 g3 k hc2 fa f5)
      isplitr
      · ipureintro
        exact ⟨accOK_next c XA arg0 g0 k fa ha, actOK_next c XA arg0 arg2 arg3 arg4 g0 g2 g3 k hc2 h7 fa ha f4 h4, lpOK_next c XA arg0 arg2 arg3 arg5 g0 g2 g3 k hc2 h7 fa ha f5 h5⟩
      isplitl [HA]; · iexact HA
      isplitl [H4]; · iexact H4
      iexact H5
    iexists _; iexact HW
  isplitl [HF HF_dst]
  · isplitl [HF_dst]; · iexists _; iexact HF_dst
    iexact HF
  iexact HF_src

end Trip

end Cert.KernelIdeal.Body
-- ==== Proof.BodyIdeal.lean ====
module

public import proofs.«01_k».proof.Proof.RingIdeal

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The algebra the proof runs in: the pipeline's own beside the counters the kernel's own copies use. -/
local notation "𝕄" => MT nD τ sig Unit (Elt F) ℕ (Pipeline.UD sig nD τ) ℕ

section Loop
variable (c : Dev nD) (XA : Buf (Elt F) (wM.view.loc (c : Thread nD τ)))
  (arg0 : Memref sig .tc .vmem S8x2048 .f32) (harg0 : arg0.IsWhole)
  (arg2 : Memref sig .tc .vmem S8x8x256 .f32) (harg2 : arg2.IsWhole)
  (arg3 : Memref sig .tc .vmem S8x8x256 .f32) (harg3 : arg3.IsWhole)
  (arg4 : Memref sig .tc .vmem S8x128 .i32) (harg4 : arg4.IsWhole)
  (arg5 : Memref sig .tc .vmem S8x128 .f32) (harg5 : arg5.IsWhole)
  (g0 : Buf (Elt F) (arg0.view.loc (c : Thread nD τ)))
  (g2 : Buf (Elt F) (arg2.view.loc (c : Thread nD τ)))
  (g3 : Buf (Elt F) (arg3.view.loc (c : Thread nD τ)))

/-- The chunks not in a slot before trip `k`. -/
abbrev homes (k : ℕ) : sProp 𝕄 := bigSep (Ring.homeSet (NB := 64) 4 k) (homeP c XA)

/-- Before trip `k`: what a trip takes, the chunks at home, the four slots. -/
def invP (k : ℕ) : sProp 𝕄 :=
  iprop(tripPre c XA arg0 arg2 arg3 arg4 arg5 g0 g2 g3 k ∗ homes c XA k
    ∗ roleP c XA k ∗ roleP c XA (k + 1) ∗ roleP c XA (k + 2) ∗ roleP c XA (k + 3))

/-- Before a trip that starts a copy: the chunk it sends is at home, beside the others; -/
theorem homes_out (k : ℕ) (hk : k + 4 < 64) :
    homes c XA k = iprop(homeP c XA (Ring.bk 64 (k + 4)) ∗ bigSep ((Ring.homeSet 4 k).erase (Ring.bk 64 (k + 4))) (homeP c XA)) := by
  unfold homes
  conv_lhs => rw [Ring.homeSet_out 4 k hk, bigSep_insert (Ring.bkL_not_mem_erase 4 k)]
  rfl
/-- after it, the chunk that arrived is at home, beside the same others. -/
theorem homes_back (k : ℕ) (hk : k + 4 < 64) :
    homes c XA (k + 1) = iprop(homeP c XA (Ring.bk 64 k) ∗ bigSep ((Ring.homeSet 4 k).erase (Ring.bk 64 (k + 4))) (homeP c XA)) := by
  unfold homes
  conv_lhs => rw [Ring.homeSet_succ 4 k hk, bigSep_insert (Ring.bk_not_mem_erase 4 k (by omega) (by decide))]
  rfl
/-- After a trip that starts none, one chunk more is at home. -/
theorem homes_tail (k : ℕ) (hk : ¬ k + 4 < 64) (h : k < 64) :
    homes c XA (k + 1) = iprop(homeP c XA (Ring.bk 64 k) ∗ homes c XA k) := by
  unfold homes
  conv_lhs => rw [Ring.homeSet_succ_tail 4 k (by omega) h, bigSep_insert (Ring.bk_not_mem_homeSet 4 k h (by decide))]
  rfl

/-- One trip takes the invariant to the next. -/
theorem invP_step (k : Fin k0_t1_loop.trips) :
    invP c XA arg0 arg2 arg3 arg4 arg5 g0 g2 g3 k.val
      ⊢ wp frame (wpE (defs₀ (F := F)) 𝒱₀ (c : Thread nD τ) none) Set.univ (trip arg0 harg0 arg2 harg2 arg3 harg3 arg4 harg4 arg5 harg5 k)
        (fun _ => invP c XA arg0 arg2 arg3 arg4 arg5 g0 g2 g3 (k.val + 1)) := by
  have hk := trip_lt k
  unfold invP
  by_cases h1 : k.val + 4 < 64
  · rw [homes_out c XA k.val h1, homes_back c XA k.val h1]
    iintro ⟨HT, ⟨HH, Hrest⟩, R0, R1, R2, R3⟩
    iapply (wp_wand_r Idealize.ShloMosaic.frame (wpE (defs₀ (F := F)) 𝒱₀ (c : Thread nD τ) none) Set.univ)
    isplitl [HT HH R0]
    · by_cases h7 : k.val % 8 = 7
      · iapply (trip_issue_last c XA arg0 harg0 arg2 harg2 arg3 harg3 arg4 harg4 arg5 harg5 g0 g2 g3 k h1 h7)
        isplitl [HT]; · iexact HT
        isplitl [R0]; · iexact R0
        iexact HH
      · iapply (trip_issue c XA arg0 harg0 arg2 harg2 arg3 harg3 arg4 harg4 arg5 harg5 g0 g2 g3 k h1 h7)
        isplitl [HT]; · iexact HT
        isplitl [R0]; · iexact R0
        iexact HH
    · iintro %_ ⟨HT, R4, HH⟩
      isplitl [HT]; · iexact HT
      isplitl [HH Hrest]
      · isplitl [HH]; · iexact HH
        iexact Hrest
      isplitl [R1]; · iexact R1
      isplitl [R2]; · iexact R2
      isplitl [R3]; · iexact R3
      iexact R4
  · rw [homes_tail c XA k.val h1 hk]
    iintro ⟨HT, Hrest, R0, R1, R2, R3⟩
    iapply (wp_wand_r Idealize.ShloMosaic.frame (wpE (defs₀ (F := F)) 𝒱₀ (c : Thread nD τ) none) Set.univ)
    isplitl [HT R0]
    · by_cases h7 : k.val % 8 = 7
      · iapply (trip_drain_last c XA arg0 harg0 arg2 harg2 arg3 harg3 arg4 harg4 arg5 harg5 g0 g2 g3 k h1 h7)
        isplitl [HT]; · iexact HT
        iexact R0
      · iapply (trip_drain c XA arg0 harg0 arg2 harg2 arg3 harg3 arg4 harg4 arg5 harg5 g0 g2 g3 k h1 h7)
        isplitl [HT]; · iexact HT
        iexact R0
    · iintro %_ ⟨HT, R4, HH⟩
      isplitl [HT]; · iexact HT
      isplitl [HH Hrest]
      · isplitl [HH]; · iexact HH
        iexact Hrest
      isplitl [R1]; · iexact R1
      isplitl [R2]; · iexact R2
      isplitl [R3]; · iexact R3
      iexact R4

set_option warn.classDefReducibility false in
/-- The loop's invariant. -/
@[reducible] def loopInv :
    LoopInvTy_k0_t1 (F := F) Unit ℕ (Pipeline.UD sig nD τ) ℕ 𝒱₀ c none Set.univ arg0 harg0 wM (Memref.isWhole_whole _) arg2 harg2 arg3 harg3 arg4 harg4 arg5 harg5 bufM (Memref.isWhole_whole _) accM (Memref.isWhole_whole _) cc0_scratch2 0#32 1#32 where
  inv k _ := invP c XA arg0 arg2 arg3 arg4 arg5 g0 g2 g3 k
  step k _ := invP_step c XA arg0 harg0 arg2 harg2 arg3 harg3 arg4 harg4 arg5 harg5 g0 g2 g3 k

/-- The whole body on the given buffers. -/
abbrev bodyG : Prog (TpuEff nD τ sig (Elt F) Λ₀ .tc) PUnit :=
  cc0__fused_body arg0 harg0 wM (Memref.isWhole_whole _) arg2 harg2 arg3 harg3 arg4 harg4 arg5 harg5 bufM (Memref.isWhole_whole _) accM (Memref.isWhole_whole _) cc0_scratch2

/-- What the body is handed. -/
abbrev bodyPre (W : Waits sig Unit) : sProp 𝕄 :=
  iprop(readP c arg0 arg2 arg3 g0 g2 g3 ∗ (∃ f, heldP c accM f) ∗ (∃ f, heldP c arg4 f) ∗ (∃ f, heldP c arg5 f)
    ∗ bigSep Finset.univ (homeP c XA)
    ∗ ((∃ f, slotP c 0 f) ∗ (∃ f, slotP c 1 f) ∗ (∃ f, slotP c 2 f) ∗ (∃ f, slotP c 3 f))
    ∗ (cellP c 0 ∗ cellP c 1 ∗ cellP c 2 ∗ cellP c 3) ∗ owes (c : Thread nD τ) 0 W)
/-- What it hands back: both results whole, everything else as it came. -/
abbrev bodyPost : sProp 𝕄 :=
  iprop(readP c arg0 arg2 arg3 g0 g2 g3 ∗ (∃ f, heldP c accM f)
    ∗ (∃ f, ⌜arg4.view.read (Elt F) f = actAll (xV c arg0 g0) (wV c XA) (bV c arg2 g2) (gV c arg3 g3)⌝ ∗ heldP c arg4 f)
    ∗ (∃ f, ⌜arg5.view.read (Elt F) f = lpAll (xV c arg0 g0) (wV c XA) (bV c arg2 g2) (gV c arg3 g3)⌝ ∗ heldP c arg5 f)
    ∗ bigSep Finset.univ (homeP c XA)
    ∗ ((∃ f, slotP c 0 f) ∗ (∃ f, slotP c 1 f) ∗ (∃ f, slotP c 2 f) ∗ (∃ f, slotP c 3 f))
    ∗ (cellP c 0 ∗ cellP c 1 ∗ cellP c 2 ∗ cellP c 3) ∗ ∃ W, owes (c : Thread nD τ) 0 W)

/-- The first four chunks apart from those that start at home. -/
theorem homes_first : bigSep Finset.univ (homeP c XA)
    ⊢ iprop(homeP c XA 0 ∗ homeP c XA 1 ∗ homeP c XA 2 ∗ homeP c XA 3 ∗ homes c XA 0) := by
  have e : (Finset.univ : Finset (Fin 64)) = insert 0 (insert 1 (insert 2 (insert 3 (Ring.homeSet 4 0)))) := by decide
  unfold homes
  rw [e, bigSep_insert (by decide), bigSep_insert (by decide), bigSep_insert (by decide), bigSep_insert (by decide)]
  exact .rfl

theorem homes_end : homes c XA k0_t1_loop.trips = bigSep Finset.univ (homeP c XA) := by
  unfold homes; rw [trips_eq, Ring.homeSet_last 4 64 (le_refl _)]

/-- Before the loop slot `s` has chunk `s` on its way. -/
theorem role_first (j : ℕ) (s : Fin 4) (b : Fin 64) (hj : j < 64) (hs : Ring.sl 4 j = s) (hb : Ring.bk 64 j = b) (f) :
    flightP c XA s b f ⊢ roleP c XA j := by
  subst hs; subst hb; rw [roleP_flight c XA hj]; iintro H; iexists f; iexact H

/-- After the loop slot `s` rests, with its semaphore at zero. -/
theorem role_end (j : ℕ) (s : Fin 4) (hj : ¬ j < 64) (hs : Ring.sl 4 j = s) :
    roleP c XA j ⊢ iprop((∃ f, slotP c s f) ∗ cellP c s) := by
  subst hs; rw [roleP_rest c XA hj]

/-- Nothing is computed before trip 0. -/
theorem state_first (fa f4 f5) : iprop(heldP c accM fa ∗ heldP c arg4 f4 ∗ heldP c arg5 f5)
    ⊢ stateP c XA arg0 arg2 arg3 arg4 arg5 g0 g2 g3 0 := by
  unfold stateP
  iintro ⟨HA, H4, H5⟩
  iexists fa; iexists f4; iexists f5
  isplitr
  · ipureintro; exact ⟨fun i h => absurd h (by omega), fun i h => absurd h (by omega), fun i h => absurd h (by omega)⟩
  isplitl [HA]; · iexact HA
  isplitl [H4]; · iexact H4
  iexact H5

/-- Everything is computed after the last trip. -/
theorem state_end : stateP c XA arg0 arg2 arg3 arg4 arg5 g0 g2 g3 k0_t1_loop.trips
    ⊢ iprop((∃ f, heldP c accM f)
      ∗ (∃ f, ⌜arg4.view.read (Elt F) f = actAll (xV c arg0 g0) (wV c XA) (bV c arg2 g2) (gV c arg3 g3)⌝ ∗ heldP c arg4 f)
      ∗ (∃ f, ⌜arg5.view.read (Elt F) f = lpAll (xV c arg0 g0) (wV c XA) (bV c arg2 g2) (gV c arg3 g3)⌝ ∗ heldP c arg5 f)) := by
  unfold stateP; rw [trips_eq]
  iintro ⟨%fa, %f4, %f5, %hok, HA, H4, H5⟩
  obtain ⟨-, h4, h5⟩ := hok
  isplitl [HA]; · iexists fa; iexact HA
  isplitl [H4]
  · iexists f4
    isplitr; · ipureintro; exact funext fun i => h4 i (by have : (i 0).val < 8 := (i 0).isLt; omega)
    iexact H4
  · iexists f5
    isplitr; · ipureintro; exact funext fun i => h5 i (by have : (i 0).val < 8 := (i 0).isLt; omega)
    iexact H5

/-- The invariant before the loop. -/
theorem inv_first (fa f4 f5 e0 e1 e2 e3 W) :
    iprop(readP c arg0 arg2 arg3 g0 g2 g3 ∗ (heldP c accM fa ∗ heldP c arg4 f4 ∗ heldP c arg5 f5) ∗ owes (c : Thread nD τ) 0 W ∗ homes c XA 0
      ∗ flightP c XA 0 0 e0 ∗ flightP c XA 1 1 e1 ∗ flightP c XA 2 2 e2 ∗ flightP c XA 3 3 e3)
      ⊢ invP c XA arg0 arg2 arg3 arg4 arg5 g0 g2 g3 0 := by
  unfold invP tripPre
  iintro ⟨HR, HS, HW, Hh, F0, F1, F2, F3⟩
  isplitl [HR HS HW]
  · isplitl [HR]; · iexact HR
    isplitl [HS]; · iapply (state_first c XA arg0 arg2 arg3 arg4 arg5 g0 g2 g3 fa f4 f5); iexact HS
    iexists W; iexact HW
  isplitl [Hh]; · iexact Hh
  isplitl [F0]; · iapply (role_first c XA 0 0 0 (by decide) (by decide) (by decide) e0); iexact F0
  isplitl [F1]; · iapply (role_first c XA (0 + 1) 1 1 (by decide) (by decide) (by decide) e1); iexact F1
  isplitl [F2]; · iapply (role_first c XA (0 + 2) 2 2 (by decide) (by decide) (by decide) e2); iexact F2
  iapply (role_first c XA (0 + 3) 3 3 (by decide) (by decide) (by decide) e3); iexact F3

/-- The invariant after the loop gives what the body hands back. -/
theorem inv_end : invP c XA arg0 arg2 arg3 arg4 arg5 g0 g2 g3 k0_t1_loop.trips ⊢ bodyPost c XA arg0 arg2 arg3 arg4 arg5 g0 g2 g3 := by
  unfold invP tripPre bodyPost
  rw [homes_end]
  iintro ⟨⟨HR, HS, HW⟩, Hh, R0, R1, R2, R3⟩
  ihave S := (state_end c XA arg0 arg2 arg3 arg4 arg5 g0 g2 g3) $$ HS
  icases S with ⟨HA, H4, H5⟩
  ihave T0 := (role_end c XA k0_t1_loop.trips 0 (by rw [trips_eq]; decide) (by rw [trips_eq]; decide)) $$ R0
  ihave T1 := (role_end c XA (k0_t1_loop.trips + 1) 1 (by rw [trips_eq]; decide) (by rw [trips_eq]; decide)) $$ R1
  ihave T2 := (role_end c XA (k0_t1_loop.trips + 2) 2 (by rw [trips_eq]; decide) (by rw [trips_eq]; decide)) $$ R2
  ihave T3 := (role_end c XA (k0_t1_loop.trips + 3) 3 (by rw [trips_eq]; decide) (by rw [trips_eq]; decide)) $$ R3
  icases T0 with ⟨S0, C0⟩
  icases T1 with ⟨S1, C1⟩
  icases T2 with ⟨S2, C2⟩
  icases T3 with ⟨S3, C3⟩
  isplitl [HR]; · iexact HR
  isplitl [HA]; · iexact HA
  isplitl [H4]; · iexact H4
  isplitl [H5]; · iexact H5
  isplitl [Hh]; · iexact Hh
  isplitl [S0 S1 S2 S3]
  · isplitl [S0]; · iexact S0
    isplitl [S1]; · iexact S1
    isplitl [S2]; · iexact S2
    iexact S3
  isplitl [C0 C1 C2 C3]
  · isplitl [C0]; · iexact C0
    isplitl [C1]; · iexact C1
    isplitl [C2]; · iexact C2
    iexact C3
  iexact HW

/-- The four semaphores are the machine's DMA semaphores 5 to 8. -/
theorem cell_sem0 : (cell 0).sem = ⟨5, by decide⟩ := by decide
theorem cell_sem1 : (cell 1).sem = ⟨6, by decide⟩ := by decide
theorem cell_sem2 : (cell 2).sem = ⟨7, by decide⟩ := by decide
theorem cell_sem3 : (cell 3).sem = ⟨8, by decide⟩ := by decide

/-- The body, started with its buffers held and its semaphores at zero, leaves every agent's action and
log-probability in the two result buffers. -/
theorem body_run (W : Waits sig Unit) (Q : PUnit → sProp 𝕄) :
    iprop(bodyPre c XA arg0 arg2 arg3 arg4 arg5 g0 g2 g3 W ∗ (bodyPost c XA arg0 arg2 arg3 arg4 arg5 g0 g2 g3 -∗ Q ⟨⟩))
      ⊢ wp frame (wpE (defs₀ (F := F)) 𝒱₀ (c : Thread nD τ) none) Set.univ (bodyG arg0 harg0 arg2 harg2 arg3 harg3 arg4 harg4 arg5 harg5) Q := by
  iintro ⟨⟨HR, ⟨%fa, HA⟩, ⟨%f4, H4⟩, ⟨%f5, H5⟩, Hh, ⟨⟨%e0, Hs0⟩, ⟨%e1, Hs1⟩, ⟨%e2, Hs2⟩, ⟨%e3, Hs3⟩⟩, ⟨Hc0, Hc1, Hc2, Hc3⟩, HW⟩, Hk⟩
  ihave Hh' := (homes_first c XA) $$ Hh
  icases Hh' with ⟨Hh0, Hh1, Hh2, Hh3, Hh⟩
  sl_exec
  iapply (exec_loop Idealize.ShloMosaic.frame (wpE (defs₀ (F := F)) 𝒱₀ (c : Thread nD τ) none) Set.univ _ _ _ k0_t1_ok _ _
    (loopInv c XA arg0 harg0 arg2 harg2 arg3 harg3 arg4 harg4 arg5 harg5 g0 g2 g3)) $$ [HR HA H4 H5 HW Hh Hc0 Hc1 Hc2 Hc3]
  · iapply (inv_first c XA arg0 arg2 arg3 arg4 arg5 g0 g2 g3 fa f4 f5 e0 e1 e2 e3 W)
    isplitl [HR]; · iexact HR
    isplitl [HA H4 H5]
    · isplitl [HA]; · iexact HA
      isplitl [H4]; · iexact H4
      iexact H5
    isplitl [HW]; · iexact HW
    isplitl [Hh]; · iexact Hh
    unfold flightP
    rw [cell_sem0, cell_sem1, cell_sem2, cell_sem3]
    isplitl [Hc0]; · iexact Hc0
    isplitl [Hc1]; · iexact Hc1
    isplitl [Hc2]; · iexact Hc2
    iexact Hc3
  iintro %_ HI
  sl_step
  iapply Hk
  iapply (inv_end c XA arg0 arg2 arg3 arg4 arg5 g0 g2 g3)
  iexact HI

end Loop

end Cert.KernelIdeal.Body
-- ==== Proof.RunIdeal.lean ====
module

public import proofs.«01_k».proof.Proof.BodyIdeal
public import proofs.«01_k».proof.Proof.Gen.KernelIdeal.Frame
public import Idealize.ShloMosaic.Lib.Pipeline.FrameSuffix
public import Idealize.ShloMosaic.Lib.Pipeline.ValueKit
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

/-- The algebra the proof runs in. -/
local notation "𝕄" => MT nD τ sig Unit (Elt F) ℕ (Pipeline.UD sig nD τ) ℕ

variable (m : (ℓ : Loc nD τ sig) → Buf (Elt F) ℓ) (ρ : Dev nD → PrngReg)

/-! ## The weights and the scratch, cut into pieces -/

/-- The elements of the weight array that chunk `b` covers. -/
def wSet (b : Fin 64) : Finset S8x2048x2048.Idx :=
  (Rect.unit (s := S8x2048x2048) (chunkOff b) S1x256x2048.size (chunkOff_inb b)).set
/-- The elements of the scratch that slot `s` covers. -/
def sSet (s : Fin 4) : Finset S4x256x2048.Idx :=
  (Rect.unit (s := S4x256x2048) (slotOff s) S1x256x2048.size (slotOff_inb s)).set

theorem chunk_set (b : Fin 64) : (chunk b).view.set = wSet b := (View.set_reshape _ _).trans (View.set_slice_whole _ _)
theorem slot_set (s : Fin 4) : (slot s).view.set = sSet s := (View.set_reshape _ _).trans (View.set_slice_whole _ _)

theorem mem_wSet (b : Fin 64) (y : S8x2048x2048.Idx) : y ∈ wSet b ↔ 8 * (y 0).val + (y 1).val / 256 = b.val := by
  unfold wSet
  rw [Rect.mem_set_unit]
  have h0 : (y 0).val < 8 := (y 0).isLt
  have h1 : (y 1).val < 2048 := (y 1).isLt
  have h2 : (y 2).val < 2048 := (y 2).isLt
  have hb := b.isLt
  constructor
  · intro H
    have a0 : b.val / 8 ≤ (y 0).val ∧ (y 0).val < b.val / 8 + 1 := H 0
    have a1 : b.val % 8 * 256 ≤ (y 1).val ∧ (y 1).val < b.val % 8 * 256 + 256 := H 1
    omega
  · intro H i; fin_cases i
    · show b.val / 8 ≤ (y 0).val ∧ (y 0).val < b.val / 8 + 1; omega
    · show b.val % 8 * 256 ≤ (y 1).val ∧ (y 1).val < b.val % 8 * 256 + 256; omega
    · show 0 ≤ (y 2).val ∧ (y 2).val < 0 + 2048; omega
theorem mem_sSet (s : Fin 4) (y : S4x256x2048.Idx) : y ∈ sSet s ↔ (y 0).val = s.val := by
  unfold sSet
  rw [Rect.mem_set_unit]
  have h1 : (y 1).val < 256 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 2048; omega

theorem wSet_disjoint (b b' : Fin 64) (hne : b ≠ b') : Disjoint (wSet b) (wSet b') :=
  Finset.disjoint_left.mpr fun y hy hy' => hne (Fin.ext (((mem_wSet b y).mp hy).symm.trans ((mem_wSet b' y).mp hy')))
theorem wSet_cover : (Finset.univ : Finset (Fin 64)).biUnion wSet = Finset.univ :=
  Finset.eq_univ_iff_forall.mpr fun y => Finset.mem_biUnion.mpr
    ⟨⟨8 * (y 0).val + (y 1).val / 256, by
      have h0 : (y 0).val < 8 := (y 0).isLt
      have h1 : (y 1).val < 2048 := (y 1).isLt
      omega⟩, Finset.mem_univ _, (mem_wSet _ y).mpr rfl⟩
theorem sSet_disjoint (s s' : Fin 4) (hne : s ≠ s') : Disjoint (sSet s) (sSet s') :=
  Finset.disjoint_left.mpr fun y hy hy' => hne (Fin.ext (((mem_sSet s y).mp hy).symm.trans ((mem_sSet s' y).mp hy')))
theorem sSet_cover : (Finset.univ : Finset (Fin 4)).biUnion sSet = Finset.univ :=
  Finset.eq_univ_iff_forall.mpr fun y => Finset.mem_biUnion.mpr
    ⟨⟨(y 0).val, (y 0).isLt⟩, Finset.mem_univ _, (mem_sSet _ y).mpr rfl⟩

/-- Equal assertions entail each other. -/
theorem ent_of_eq {P Q : sProp 𝕄} (e : P = Q) : P ⊢ Q := e ▸ .rfl

/-- The weight array whole is its sixty-four chunks. -/
theorem weights_eq (c : Dev nD) (XA : Buf (Elt F) ((c : Thread nD τ).loc main_arg1)) :
    (((c : Thread nD τ).loc main_arg1) ↦{fullShare} XA : sProp 𝕄) = bigSep Finset.univ (homeP c XA) := by
  rw [Ring.pointsTo_blocks (ℓ := (c : Thread nD τ).loc main_arg1) wSet wSet_disjoint wSet_cover]
  exact bigSep_congr fun b _ => by rw [← chunk_set]; rfl

theorem slotP_eq (c : Dev nD) (s : Fin 4) (f) : slotP c s f = (((c : Thread nD τ).loc cc0_scratch0) ↦[sSet s]{fullShare} f : sProp 𝕄) :=
  congrArg (fun S => (_ ↦[S]{fullShare} f : sProp 𝕄)) (slot_set s)

/-- The logits' scratch held whole. -/
theorem accP_eq (c : Dev nD) (f : Buf (Elt F) ((c : Thread nD τ).loc cc0_scratch1)) :
    heldP c accM f = (((c : Thread nD τ).loc cc0_scratch1) ↦{fullShare} f : sProp 𝕄) :=
  congrArg (fun S => (((c : Thread nD τ).loc cc0_scratch1) ↦[S]{fullShare} f : sProp 𝕄)) (Memref.isWhole_whole cc0_scratch1).set_eq_univ

theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The scratch whole falls into its four slots, -/
theorem scratch_split (c : Dev nD) :
    iprop(∃ f : Buf (Elt F) ((c : Thread nD τ).loc cc0_scratch0), ((c : Thread nD τ).loc cc0_scratch0) ↦{fullShare} f)
      ⊢ (iprop((∃ f, slotP c 0 f) ∗ (∃ f, slotP c 1 f) ∗ (∃ f, slotP c 2 f) ∗ (∃ f, slotP c 3 f)) : sProp 𝕄) := by
  iintro ⟨%f, H⟩
  ihave H2 := (ent_of_eq ((Ring.pointsTo_blocks (Ix := Unit) (Name := ℕ) (U := Pipeline.UD sig nD τ) (Lvl := ℕ) (q := fullShare) (ℓ := (c : Thread nD τ).loc cc0_scratch0) sSet sSet_disjoint sSet_cover f).trans (bigSep_four _))) $$ H
  icases H2 with ⟨H0, H1, H2, H3⟩
  isplitl [H0]
  · iexists f; iapply (ent_of_eq (slotP_eq c 0 f).symm); iexact H0
  isplitl [H1]
  · iexists f; iapply (ent_of_eq (slotP_eq c 1 f).symm); iexact H1
  isplitl [H2]
  · iexists f; iapply (ent_of_eq (slotP_eq c 2 f).symm); iexact H2
  · iexists f; iapply (ent_of_eq (slotP_eq c 3 f).symm); iexact H3
/-- and the four slots make it up again. -/
theorem scratch_join (c : Dev nD) :
    iprop((∃ f, slotP c 0 f) ∗ (∃ f, slotP c 1 f) ∗ (∃ f, slotP c 2 f) ∗ (∃ f, slotP c 3 f))
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scratch0) sSet sSet_disjoint sSet_cover f0)
  irw [bigSep_four]
  isplitl [H0]
  · iexists f0; iapply (ent_of_eq (slotP_eq c 0 f0)); iexact H0
  isplitl [H1]
  · iexists f1; iapply (ent_of_eq (slotP_eq c 1 f1)); iexact H1
  isplitl [H2]
  · iexists f2; iapply (ent_of_eq (slotP_eq c 2 f2)); iexact H2
  · iexists f3; iapply (ent_of_eq (slotP_eq c 3 f3)); iexact H3

/-! ## The kernel's own semaphores and the array it copies from -/

/-- The four semaphores of the ring, by their numbers in the pool. -/
abbrev osem0 : Fin 4 → SemLoc sig := fun j => (![SemLoc.dma 5, SemLoc.dma 6, SemLoc.dma 7, SemLoc.dma 8] : Fin 4 → SemLoc sig) j
theorem ownSemFacts0 : Pipeline.OwnSemFacts spec0 osem0 := by decide
theorem ownSems_eq (c : Dev nD) :
    (Pipeline.ownSems0 (Ix := Unit) (Name := ℕ) (U := Pipeline.UD sig nD τ) (Lvl := ℕ) (Val := Elt F) (τ := τ) osem0 c : sProp 𝕄)
      = iprop(cellP c 0 ∗ cellP c 1 ∗ cellP c 2 ∗ cellP c 3) := by
  rw [Pipeline.ownSems0_eq_of_list c osem0 [0, 1, 2, 3] (by decide) (by decide)]
  unfold cellP
  rw [cell_sem0, cell_sem1, cell_sem2, cell_sem3]; rfl
/-- The array left where it was launched. -/
def H0 : Finset (Ref sig .tc) := {main_arg1}
theorem H0_sub : H0 ⊆ Pipeline.restRefs sig spec0 := by decide
theorem kept_eq (c : Dev nD) :
    (bigSep H0 (fun b => ((c : Thread nD τ).loc b) ↦{fullShare} V m c b) : sProp 𝕄) = bigSep Finset.univ (homeP c (V m c main_arg1)) := by
  rw [BI.bigSep_eq_bigSepL_of_eq [main_arg1] (by decide) (by decide), ← weights_eq]; rfl

/-- What the region holds beside the windows: the two scratch buffers, the generator's register, the four semaphores at
zero, the weights. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ iprop(cellP c 0 ∗ cellP c 1 ∗ cellP c 2 ∗ cellP c 3)
          ∗ bigSep Finset.univ (homeP c (V m c main_arg1))) := by
  rw [Pipeline.ΦD_eq, scopedRest0_eq, ownSems_eq, kept_eq]

/-! ## The proof data -/

/-- The four inputs as the region finds them, at the shapes the body reads them in. -/
abbrev xIn (c : Dev nD) (t : Fin cfg0.N) : S8x2048.Idx → Elt F .f32 := iblk m c 0 t
abbrev bIn (c : Dev nD) (t : Fin cfg0.N) : S8x8x256.Idx → Elt F .f32 := iblk m c 1 t
abbrev gIn (c : Dev nD) (t : Fin cfg0.N) : S8x8x256.Idx → Elt F .f32 := iblk m c 2 t
abbrev wIn (c : Dev nD) : S8x2048x2048.Idx → Elt F .f32 := wV c (V m c main_arg1)

/-- The proof data on core `c`: the body leaves the inputs as they are, the actions in the first result and the
log-probabilities in the second. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => actAll (xIn m c t) (wIn m c) (bIn m c t) (gIn m c t)
    | ⟨4, _⟩ => lpAll (xIn m c t) (wIn m c) (bIn m c t) (gIn m c t)
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem before_w0 (c : Dev nD) (t : Fin cfg0.N) (d) : (dats m 0 c).before 0 t d = iblk m c 0 t := by
  unfold Dat.before; rw [if_pos (fetch0_0 t)]; unfold Dat.fetched Dat.blockOf iblk; dsimp only [dats]; rfl
theorem before_w1 (c : Dev nD) (t : Fin cfg0.N) (d) : (dats m 0 c).before 1 t d = iblk m c 1 t := by
  unfold Dat.before; rw [if_pos (fetch0_1 t)]; unfold Dat.fetched Dat.blockOf iblk; dsimp only [dats]; rfl
theorem before_w2 (c : Dev nD) (t : Fin cfg0.N) (d) : (dats m 0 c).before 2 t d = iblk m c 2 t := by
  unfold Dat.before; rw [if_pos (fetch0_2 t)]; unfold Dat.fetched Dat.blockOf iblk; dsimp only [dats]; rfl
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = actAll (xIn m c t) (wIn m c) (bIn m c t) (gIn m c t) := by dsimp only [dats]
theorem after_w4 (c : Dev nD) (t : Fin cfg0.N) : (dats m 0 c).after 4 t = lpAll (xIn m c t) (wIn m c) (bIn m c t) (gIn m c t) := by dsimp only [dats]

/-! ## The body obligation -/

theorem defs₀_row (t : Fin cfg0.N) : defs₀ (F := F) .tc cfg0.body (cfg0.bodyArgs t (cfg0.slots t)) = bodyAt0 t := by
  unfold defs₀; rw [Defs.onTc_tc]

/-- The windows' buffers at point `t`, as the pipeline passes them. -/
abbrev ms0 (t : Fin cfg0.N) : Memref sig .tc .vmem S8x2048 .f32 := win0_0.stage (cfg0.slots t 0)
abbrev ms1 (t : Fin cfg0.N) : Memref sig .tc .vmem S8x8x256 .f32 := win0_1.stage (cfg0.slots t 1)
abbrev ms2 (t : Fin cfg0.N) : Memref sig .tc .vmem S8x8x256 .f32 := win0_2.stage (cfg0.slots t 2)
abbrev ms3 (t : Fin cfg0.N) : Memref sig .tc .vmem S8x128 .i32 := win0_3.stage (cfg0.slots t 3)
abbrev ms4 (t : Fin cfg0.N) : Memref sig .tc .vmem S8x128 .f32 := win0_4.stage (cfg0.slots t 4)

/-- What the region holds beside the windows, conjunct by conjunct. -/
abbrev restP (c : Dev nD) (XA : Buf (Elt F) ((c : Thread nD τ).loc main_arg1)) : sProp 𝕄 :=
  iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ (∃ r, prngReg c r)
          ∗ iprop(cellP c 0 ∗ cellP c 1 ∗ cellP c 2 ∗ cellP c 3)
          ∗ bigSep Finset.univ (homeP c XA))

section Owned

variable (c : Dev nD) (XA : Buf (Elt F) ((c : Thread nD τ).loc main_arg1))
  (arg0 : Memref sig .tc .vmem S8x2048 .f32) (harg0 : arg0.IsWhole)
  (arg2 : Memref sig .tc .vmem S8x8x256 .f32) (harg2 : arg2.IsWhole) (arg3 : Memref sig .tc .vmem S8x8x256 .f32) (harg3 : arg3.IsWhole)
  (arg4 : Memref sig .tc .vmem S8x128 .i32) (harg4 : arg4.IsWhole) (arg5 : Memref sig .tc .vmem S8x128 .f32) (harg5 : arg5.IsWhole)
  (x : S8x2048.Idx → Elt F .f32) (b g : S8x8x256.Idx → Elt F .f32)

/-- The body, from its buffers owned at their values. -/
theorem body_owned (W : Waits sig Unit) (Q : PUnit → sProp 𝕄) :
    iprop(restP c XA ∗ owes (c : Thread nD τ) 0 W
      ∗ owns (c : Thread nD τ) arg0 fullShare x ∗ owns (c : Thread nD τ) arg2 fullShare b ∗ owns (c : Thread nD τ) arg3 fullShare g
      ∗ (∃ d, owns (c : Thread nD τ) arg4 fullShare d) ∗ (∃ d, owns (c : Thread nD τ) arg5 fullShare d)
      ∗ (iprop(restP c XA ∗ (∃ W', owes (c : Thread nD τ) 0 W')
          ∗ owns (c : Thread nD τ) arg0 fullShare x ∗ owns (c : Thread nD τ) arg2 fullShare b ∗ owns (c : Thread nD τ) arg3 fullShare g
          ∗ owns (c : Thread nD τ) arg4 fullShare (actAll x (wV c XA) b g) ∗ owns (c : Thread nD τ) arg5 fullShare (lpAll x (wV c XA) b g)) -∗ Q ⟨⟩))
    ⊢ wp frame (wpE (defs₀ (F := F)) 𝒱₀ (c : Thread nD τ) none) Set.univ (bodyG arg0 harg0 arg2 harg2 arg3 harg3 arg4 harg4 arg5 harg5) Q := by
  unfold owns
  iintro ⟨⟨⟨HB, ⟨%fa, HA⟩⟩, Hg, Hq, Hh⟩, HO, ⟨%g0, %hg0, H0⟩, ⟨%g1, %hg1, H1⟩, ⟨%g2, %hg2, H2⟩, ⟨%d3, %g3, %hg3, H3⟩, ⟨%d4, %g4, %hg4, H4⟩, Hk⟩
  ihave HS := (scratch_split c) $$ HB
  subst hg0; subst hg1; subst hg2
  iapply (body_run c XA arg0 harg0 arg2 harg2 arg3 harg3 arg4 harg4 arg5 harg5 g0 g1 g2 W)
  isplitl [HA HS Hq Hh HO H0 H1 H2 H3 H4]
  · isplitl [H0 H1 H2]
    · isplitl [H0]; · iexact H0
      isplitl [H1]; · iexact H1
      iexact H2
    isplitl [HA]; · iexists fa; iapply (ent_of_eq (accP_eq c fa).symm); iexact HA
    isplitl [H3]; · iexists g3; iexact H3
    isplitl [H4]; · iexists g4; iexact H4
    isplitl [Hh]; · iexact Hh
    isplitl [HS]; · iexact HS
    isplitl [Hq]; · iexact Hq
    iexact HO
  · iintro ⟨⟨H0, H1, H2⟩, ⟨%fb, HA⟩, ⟨%f3, %h3, H3⟩, ⟨%f4, %h4, H4⟩, Hh, HS, Hq, HO⟩
    iapply Hk
    isplitl [HA Hg Hq Hh HS]
    · isplitl [HA HS]
      · isplitl [HS]; · iapply (scratch_join c); iexact HS
        iexists fb; iapply (ent_of_eq (accP_eq c fb)); iexact HA
      isplitl [Hg]; · iexact Hg
      isplitl [Hq]; · iexact Hq
      iexact Hh
    isplitl [HO]; · iexact HO
    isplitl [H0]
    · iexists g0; isplitr; · ipureintro; rfl
      iexact H0
    isplitl [H1]
    · iexists g1; isplitr; · ipureintro; rfl
      iexact H1
    isplitl [H2]
    · iexists g2; isplitr; · ipureintro; rfl
      iexact H2
    isplitl [H3]
    · iexists f3; isplitr; · ipureintro; exact h3
      iexact H3
    iexists f4; isplitr; · ipureintro; exact h4
    iexact H4

end Owned

/-- The pipeline's body obligation. -/
theorem body_obligation (c : Dev nD) : BodyObligation (dats (F := F) m 0 c) (defs₀ (F := F)) 𝒱₀ () Set.univ := fun t => by
  rw [bigSep_W0, bigSep_W0, defs₀_row]
  dsimp only
  simp only [before_w0, before_w1, before_w2, after_w0, after_w1, after_w2, after_w3, after_w4]
  rw [show (dats m 0 c).Φ t.castSucc = Pipeline.ΦD osem0 spec0 H0 (V m) c from rfl,
    show (dats m 0 c).Φ t.succ = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨HΦ, ⟨%W, %hW, HO⟩, ⟨%d0, H0⟩, ⟨%d1, H1⟩, ⟨%d2, H2⟩, ⟨%d3, H3⟩, ⟨%d4, H4⟩⟩
  iapply (body_owned c (V m c main_arg1) (ms0 t) (hstage0_0 0) (ms1 t) (hstage0_1 0) (ms2 t) (hstage0_2 0) (ms3 t) (hstage0_3 0) (ms4 t) (hstage0_4 0)
    (xIn m c t) (bIn m c t) (gIn m c t) W _)
  isplitl [HΦ]; · iexact HΦ
  isplitl [HO]; · iexact HO
  isplitl [H0]; · iexact H0
  isplitl [H1]; · iexact H1
  isplitl [H2]; · iexact H2
  isplitl [H3]; · iexists _; iexact H3
  isplitl [H4]; · iexists _; iexact H4
  iintro ⟨HΦ, ⟨%W', HO⟩, H0, H1, H2, H3, H4⟩
  isplitl [HΦ]; · iexact HΦ
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  iexact H4

/-! ## The launch -/

set_option maxHeartbeats 800000 in
/-- The program is its host lines, the region, and its host lines after. -/
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the windows' arrays and other buffers, but not the weights. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl
  all_goals
    intro h
    rcases Finset.mem_insert.mp h with h | h
    · exact StableHlo.devRef_ne_of_ne (by decide) h
    · exact StableHlo.devRef_ne_of_ne (by decide) (Finset.mem_singleton.mp h)

set_option backward.isDefEq.respectTransparency.types false in
/-- From any memory with zero counters the program terminates; the windows' arrays end at the proof data's contents, every
other buffer at what the last host lines leave, every semaphore at zero. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ 𝒱₀ ownSemFacts0 H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := hmainD m) (hA := A_eq m) (hin := fun _ => .rfl) (hout := fun _ => .rfl)

end Cert.KernelIdeal.Body

end
-- ==== Proof.ResultIdeal.lean ====
module

public import proofs.«01_k».proof.Proof.RunIdeal
public import Idealize.ShloMosaic.Lib.Claim
public import Idealize.ShloMosaic.Lib.Tactic

@[expose] public section

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F] [Named F]

variable (m : (ℓ : Loc nD τ sig) → Buf (Elt F) ℓ) (ρ : Dev nD → PrngReg)

/-- No host line touches `main_arg1`: it ends as launched. -/
theorem tail_arg1 (c : Dev nD) : Pipeline.afterTail₀ cfgs (dats m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host line touches `main_arg2`: it ends as launched. -/
theorem tail_arg2 (c : Dev nD) : Pipeline.afterTail₀ cfgs (dats m) 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- From any memory with zero counters the program terminates with its arguments unchanged and every semaphore at zero. -/
theorem run_quiescent :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats m 0 c).arrAt_in 0 rfl _).trans ((A_eq m c 0).trans (V_main_arg0 m c))),
      (((h.1 c).2 main_arg1 (Pipeline.mem_restRefs_of main_arg1 (by decide) (by decide))).trans (tail_arg1 m c)),
      (((h.1 c).2 main_arg2 (Pipeline.mem_restRefs_of main_arg2 (by decide) (by decide))).trans (tail_arg2 m c))⟩, h.2⟩) (run_main m ρ)

/-- The one grid point. -/
abbrev t0 : Fin cfg0.N := ⟨0, by decide⟩

/-- The one point writes the first result's whole array, -/
theorem arr3_of (c : Dev nD) (G : S8x128.Idx → Elt F .i32) (h : (dats m 0 c).after 3 t0 = G) : (dats m 0 c).arrAt 3 cfg0.N = G := by
  refine (dats m 0 c).arrAt_eq_of_after_last 3 t0 (by decide +kernel) _ fun j => ?_
  rw [h]; rfl
/-- and the second's. -/
theorem arr4_of (c : Dev nD) (G : S8x128.Idx → Elt F .f32) (h : (dats m 0 c).after 4 t0 = G) : (dats m 0 c).arrAt 4 cfg0.N = G := by
  refine (dats m 0 c).arrAt_eq_of_after_last 4 t0 (by decide +kernel) _ fun j => ?_
  rw [h]; rfl
/-- The first result's array ends with every agent's action, -/
theorem arr3_eq (c : Dev nD) : (dats m 0 c).arrAt 3 cfg0.N = actAll (xIn m c t0) (wIn m c) (bIn m c t0) (gIn m c t0) :=
  arr3_of m c _ (after_w3 m c t0)
/-- the second's with every agent's log-probability. -/
theorem arr4_eq (c : Dev nD) : (dats m 0 c).arrAt 4 cfg0.N = lpAll (xIn m c t0) (wIn m c) (bIn m c t0) (gIn m c t0) :=
  arr4_of m c _ (after_w4 m c t0)

/-- The host line after the region takes the first lane of the actions, -/
theorem tail_v0_0 (c : Dev nD) : Pipeline.afterTail₀ cfgs (dats m) 0 (V0 m) [hostOps1] c main_v0_0
    = extractStridedSlice S8x1 ![0, 0] (actAll (xIn m c t0) (wIn m c) (bIn m c t0) (gIn m c t0)) slices_S8x128_S8x1_0_0 := by
  unfold Pipeline.afterTail₀
  simp only [hostOps1, List.flatten_cons, List.flatten_nil, List.append_nil, List.cons_append, List.nil_append]
  after_results
  exact congrArg (fun X : S8x128.Idx → Elt F .i32 => extractStridedSlice S8x1 ![0, 0] X slices_S8x128_S8x1_0_0)
    ((Pipeline.withArrays_arr spec0 launch0.win.arr_inj c (V0 m c) (fun w => (dats m 0 c).arrAt w (cfgs 0).N) 3).trans (arr3_eq m c))
/-- and the next the first lane of the log-probabilities. -/
theorem tail_v0_1 (c : Dev nD) : Pipeline.afterTail₀ cfgs (dats m) 0 (V0 m) [hostOps1] c main_v0_1
    = extractStridedSlice S8x1 ![0, 0] (lpAll (xIn m c t0) (wIn m c) (bIn m c t0) (gIn m c t0)) slices_S8x128_S8x1_0_0 := by
  unfold Pipeline.afterTail₀
  simp only [hostOps1, List.flatten_cons, List.flatten_nil, List.append_nil, List.cons_append, List.nil_append]
  after_results
  exact congrArg (fun X : S8x128.Idx → Elt F .f32 => extractStridedSlice S8x1 ![0, 0] X slices_S8x128_S8x1_0_0)
    ((Pipeline.withArrays_arr spec0 launch0.win.arr_inj c (V0 m c) (fun w => (dats m 0 c).arrAt w (cfgs 0).N) 4).trans (arr4_eq m c))

/-- Each input window's block is its whole array. -/
theorem xIn_V (c : Dev nD) (t : Fin cfg0.N) : xIn m c t = V m c main_arg0 := by
  funext j; unfold xIn iblk; rw [View.read_apply]
  refine congrArg (V m c main_arg0) (funext fun a => Fin.ext ?_)
  exact (cfg0.win 0).rect_emb_val_of_index_zero t a rfl j
theorem bIn_V (c : Dev nD) (t : Fin cfg0.N) : bIn m c t = V m c main_call0_v1 := by
  funext j; unfold bIn iblk; rw [View.read_apply]
  refine congrArg (V m c main_call0_v1) (funext fun a => Fin.ext ?_)
  exact (cfg0.win 1).rect_emb_val_of_index_zero t a rfl j
theorem gIn_V (c : Dev nD) (t : Fin cfg0.N) : gIn m c t = V m c main_call0_v0 := by
  funext j; unfold gIn iblk; rw [View.read_apply]
  refine congrArg (V m c main_call0_v0) (funext fun a => Fin.ext ?_)
  exact (cfg0.win 2).rect_emb_val_of_index_zero t a rfl j

theorem xIn_eq (c : Dev nD) (t : Fin cfg0.N) : xIn m c t = m ((c.tc : Thread nD τ).loc main_arg0) :=
  (xIn_V m c t).trans (V_main_arg0 m c)
theorem wIn_eq (c : Dev nD) : wIn m c = m ((c.tc : Thread nD τ).loc main_arg1) := by
  rw [← V_main_arg1 m c]; rfl

/-- The noise table as the program states it. -/
def noise : S8x2048.Idx → Elt F .f32 := fun i => FloatOps.ofBits .f32 (lit0 (S8x2048.rowMajor i))

theorem bIn_eq (c : Dev nD) (t : Fin cfg0.N) :
    bIn m c t = shapeCast S8x8x256 (m ((c.tc : Thread nD τ).loc main_arg2) : S8x2048.Idx → Elt F .f32) shapeCasts_S8x2048_S8x8x256 := by
  rw [bIn_V]
  show StableHlo.after hostOps0 (fun b => m (c, b)) (Proc.devRef .tc main_call0_v1) = _
  simp only [hostOps0]
  after_results
  rfl
theorem gIn_eq (c : Dev nD) (t : Fin cfg0.N) :
    gIn m c t = shapeCast S8x8x256 (noise (F := F)) shapeCasts_S8x2048_S8x8x256 := by
  rw [gIn_V]
  show StableHlo.after hostOps0 (fun b => m (c, b)) (Proc.devRef .tc main_call0_v0) = _
  simp only [hostOps0]
  after_results
  rfl

/-- The two results, as functions of the three arguments. -/
def actRes (x : S8x2048.Idx → Elt F .f32) (w : S8x2048x2048.Idx → Elt F .f32) (b : S8x2048.Idx → Elt F .f32) : S8x1.Idx → Elt F .i32 :=
  extractStridedSlice S8x1 ![0, 0] (actAll x w (shapeCast S8x8x256 b shapeCasts_S8x2048_S8x8x256)
    (shapeCast S8x8x256 noise shapeCasts_S8x2048_S8x8x256)) slices_S8x128_S8x1_0_0
def lpRes (x : S8x2048.Idx → Elt F .f32) (w : S8x2048x2048.Idx → Elt F .f32) (b : S8x2048.Idx → Elt F .f32) : S8x1.Idx → Elt F .f32 :=
  extractStridedSlice S8x1 ![0, 0] (lpAll x w (shapeCast S8x8x256 b shapeCasts_S8x2048_S8x8x256)
    (shapeCast S8x8x256 noise shapeCasts_S8x2048_S8x8x256)) slices_S8x128_S8x1_0_0

/-- The run: both results as functions of the arguments, the arguments unchanged. -/
theorem run_results :
    θ_run defs (onTc (τ := τ) (main (F := F))) ⟨m, fun _ => 0, ρ⟩ (fun r => ∀ c : Dev nD,
      r.2.mem ((c.tc : Thread nD τ).loc main_v0_0) = actRes (m ((c.tc : Thread nD τ).loc main_arg0)) (m ((c.tc : Thread nD τ).loc main_arg1)) (m ((c.tc : Thread nD τ).loc main_arg2))
      ∧ r.2.mem ((c.tc : Thread nD τ).loc main_v0_1) = lpRes (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨
      (((h.1 c).2 main_v0_0 (Pipeline.mem_restRefs_of main_v0_0 (by decide) (by decide))).trans (tail_v0_0 m c)).trans
        (by rw [xIn_eq, wIn_eq, bIn_eq, gIn_eq]; rfl),
      (((h.1 c).2 main_v0_1 (Pipeline.mem_restRefs_of main_v0_1 (by decide) (by decide))).trans (tail_v0_1 m c)).trans
        (by rw [xIn_eq, wIn_eq, bIn_eq, gIn_eq]; rfl),
      ((h.1 c).1 0).trans (((dats m 0 c).arrAt_in 0 rfl _).trans ((A_eq m c 0).trans (V_main_arg0 m c))),
      (((h.1 c).2 main_arg1 (Pipeline.mem_restRefs_of main_arg1 (by decide) (by decide))).trans (tail_arg1 m c)),
      (((h.1 c).2 main_arg2 (Pipeline.mem_restRefs_of main_arg2 (by decide) (by decide))).trans (tail_arg2 m c))⟩) (run_main m ρ)

end Cert.KernelIdeal.Body

end
-- ==== Proof.RefRun.lean ====
module

public import proofs.«01_k».proof.Defs
public import proofs.«01_k».proof.Proof.Gen.ReferenceIdeal
public import Idealize.ShloMosaic.Lib.StableHlo.RunHlo
public import Idealize.ShloMosaic.Lib.StableHlo.RunRead
public import Idealize.ShloMosaic.Lib.Quiescent

@[expose] public section

set_option maxRecDepth 20000

noncomputable section

namespace Cert.ReferenceIdeal.Body

open Cert.ReferenceIdeal Cert.ReferenceIdeal.Gen
open Idealize.ShloMosaic Idealize.ShloMosaic.TcCoe Idealize.ShloMosaic.StableHlo
open Idealize.SL.Sem

variable {F : FTy → Type} [FloatOps F]

/-! ## The results, as functions of the arguments -/

/-- The noise table added to the logits. -/
def noise : S8x2048.Idx → Elt F .f32 := fun i => FloatOps.ofBits .f32 (lit0 (S8x2048.rowMajor i))

/-- The logits: the batched product plus the bias. -/
def logits (x : S8x2048.Idx → Elt F .f32) (w : S8x2048x2048.Idx → Elt F .f32) (b : S8x2048.Idx → Elt F .f32) :
    S8x2048.Idx → Elt F .f32 :=
  addf (Host.dotGeneral dot_S8x2048_S8x2048x2048_S8x2048_1_2_n_1_0_0 none x w) b

/-- The winning index of each row. -/
def winner (p : S8x2048.Idx → Elt F .f32) : S8.Idx → Elt F .i32 := fun j =>
  (Host.argReduce reducer_argmax_f32_i32 p (iotaInDim S8x2048 32 1) (constant S_ .f32 0xFF800000#32) (constantI S_ 32 0#32)
    reducesTo_S8x2048_S8_d1 h_S_ j).2

/-- The largest logit of each row. -/
def rowMax (l : S8x2048.Idx → Elt F .f32) : S8.Idx → Elt F .f32 :=
  maximumf (broadcastInDim S8 ![] bcast_S_S8 (constant S_ .f32 0xFF800000#32))
    (Host.reduce FloatOps.maximumf l (constant S_ .f32 0xFF800000#32) reducesTo_S8x2048_S8_d1 h_S_)

/-- The logits less their row's largest. -/
def centred (l : S8x2048.Idx → Elt F .f32) : S8x2048.Idx → Elt F .f32 :=
  subf l (broadcastInDim S8x2048 ![0, 1] bcast_S8x1_S8x2048_0_1 (broadcastInDim S8x1 ![0] bcast_S8_S8x1_0 (rowMax l)))

/-- The log-softmax of each row. -/
def logSoftmax (l : S8x2048.Idx → Elt F .f32) : S8x2048.Idx → Elt F .f32 :=
  subf (centred l) (broadcastInDim S8x2048 ![0, 1] bcast_S8x1_S8x2048_0_1
    (Host.log (broadcastInDim S8x1 ![0] bcast_S8_S8x1_0
      (Host.reduceAdd (Host.exp (centred l)) (constant S_ .f32 0x00000000#32) reducesTo_S8x2048_S8_d1 h_S_))))

/-- The index to take, counted from the end where it is negative. -/
def wrapped (i : S8x1.Idx → Elt F .i32) : S8x1x1.Idx → Elt F .i32 :=
  shapeCast S8x1x1 (select (cmpi .slt i (broadcastInDim S8x1 ![] bcast_S_S8x1 (constantI S_ 32 0#32)))
    (addi i (broadcastInDim S8x1 ![] bcast_S_S8x1 (constantI S_ 32 2048#32))) i) shapeCasts_S8x1_S8x1x1

/-- Whether the index lies in the row. -/
def inRow (i : S8x1x1.Idx → Elt F .i32) : S8x1.Idx → Elt F .i1 :=
  Host.reduce IntOp.andi
    (andi (cmpi .sge i (broadcastInDim S8x1x1 ![] bcast_S_S8x1x1 (constantI S_ 32 0#32)))
      (cmpi .sle i (broadcastInDim S8x1x1 ![0, 1, 2] bcast_S1x1x1_S8x1x1_0_1_2
        (broadcastInDim S1x1x1 ![2] bcast_S1_S1x1x1_2 (constantI S1 32 2047#32)))))
    (constantI S_ 1 1#1) reducesTo_S8x1x1_S8x1_d2 h_S_

/-- The entry of each row at the index given for it. -/
def taken (s : S8x2048.Idx → Elt F .f32) (i : S8x1.Idx → Elt F .i32) : S8x1.Idx → Elt F .f32 :=
  select (inRow (F := F) (wrapped (F := F) i)) (Host.gather gather_S8x2048_S8x1x1_S8x1_n_1_0_0_1_2_11 s (wrapped (F := F) i))
    (broadcastInDim S8x1 ![] bcast_S_S8x1 (constant S_ .f32 0x7FC00000#32))

/-- The winning indices, as a column. -/
def winnerCol (p : S8x2048.Idx → Elt F .f32) : S8x1.Idx → Elt F .i32 := broadcastInDim S8x1 ![0] bcast_S8_S8x1_0 (winner p)

/-- The first result. -/
def actRes (x : S8x2048.Idx → Elt F .f32) (w : S8x2048x2048.Idx → Elt F .f32) (b : S8x2048.Idx → Elt F .f32) :
    S8x1.Idx → Elt F .i32 := winnerCol (addf (logits x w b) noise)

/-- The second result. -/
def lpRes (x : S8x2048.Idx → Elt F .f32) (w : S8x2048x2048.Idx → Elt F .f32) (b : S8x2048.Idx → Elt F .f32) :
    S8x1.Idx → Elt F .f32 := taken (logSoftmax (logits x w b)) (actRes x w b)

/-! ## The operations, in stages -/

/-- The logits and the perturbed logits. -/
def opsA : List (HloOp τ sig (Elt F)) :=
  [ StableHlo.nullary main_cst (fun i => FloatOps.ofBits .f32 (lit0 (S8x2048.rowMajor i))),
    StableHlo.binary main_arg0 main_arg1 main_v0 ((fun l r => Host.dotGeneral dot_S8x2048_S8x2048x2048_S8x2048_1_2_n_1_0_0 none l r) : (⟨S8x2048, .f32⟩ : BufTy).Contents (Elt F) → (⟨S8x2048x2048, .f32⟩ : BufTy).Contents (Elt F) → (⟨S8x2048, .f32⟩ : BufTy).Contents (Elt F)),
    StableHlo.binary main_v0 main_arg2 main_v1 (addf : (⟨S8x2048, .f32⟩ : BufTy).Contents (Elt F) → (⟨S8x2048, .f32⟩ : BufTy).Contents (Elt F) → (⟨S8x2048, .f32⟩ : BufTy).Contents (Elt F)),
    StableHlo.binary main_v1 main_cst main_v2 (addf : (⟨S8x2048, .f32⟩ : BufTy).Contents (Elt F) → (⟨S8x2048, .f32⟩ : BufTy).Contents (Elt F) → (⟨S8x2048, .f32⟩ : BufTy).Contents (Elt F)) ]

/-- The argmax. -/
def opsB : List (HloOp τ sig (Elt F)) :=
  [ StableHlo.TRef.nullary main_call0.v0 (iotaInDim S8x2048 32 1),
    StableHlo.TRef.nullary main_call0.cst (constant S_ .f32 0xFF800000#32),
    StableHlo.TRef.nullary main_call0.c (constantI S_ 32 0#32),
    StableHlo.TRef.quaternary (.of main_v2 : TRef sig ⟨S8x2048, .f32⟩) main_call0.v0 main_call0.cst main_call0.c main_call0.v1_0 (fun x y u v j => (Host.argReduce reducer_argmax_f32_i32 x y u v reducesTo_S8x2048_S8_d1 h_S_ j).1),
    StableHlo.TRef.quaternary (.of main_v2 : TRef sig ⟨S8x2048, .f32⟩) main_call0.v0 main_call0.cst main_call0.c main_call0.v1_1 (fun x y u v j => (Host.argReduce reducer_argmax_f32_i32 x y u v reducesTo_S8x2048_S8_d1 h_S_ j).2) ]

/-- The log-softmax. -/
def opsC : List (HloOp τ sig (Elt F)) :=
  [ StableHlo.TRef.nullary main_call1.cst (constant S_ .f32 0xFF800000#32),
    StableHlo.TRef.binary (.of main_v1 : TRef sig ⟨S8x2048, .f32⟩) main_call1.cst main_call1.v0 (fun x v => Host.reduce FloatOps.maximumf x v reducesTo_S8x2048_S8_d1 h_S_),
    StableHlo.TRef.nullary main_call1.cst_0 (constant S_ .f32 0xFF800000#32),
    StableHlo.TRef.unary main_call1.cst_0 main_call1.v1 (broadcastInDim S8 ![] bcast_S_S8),
    StableHlo.TRef.binary main_call1.v1 main_call1.v0 main_call1.v2 maximumf,
    StableHlo.TRef.unary main_call1.v2 main_call1.v3 (broadcastInDim S8x1 ![0] bcast_S8_S8x1_0),
    StableHlo.TRef.unary main_call1.v3 main_call1.v4 (broadcastInDim S8x2048 ![0, 1] bcast_S8x1_S8x2048_0_1),
    StableHlo.TRef.binary (.of main_v1 : TRef sig ⟨S8x2048, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S8x2048_S8_d1 h_S_),
    StableHlo.TRef.unary main_call1.v7 main_call1.v8 (broadcastInDim S8x1 ![0] bcast_S8_S8x1_0),
    StableHlo.TRef.unary main_call1.v8 main_call1.v9 Host.log,
    StableHlo.TRef.unary main_call1.v9 main_call1.v10 (broadcastInDim S8x2048 ![0, 1] bcast_S8x1_S8x2048_0_1),
    StableHlo.TRef.binary main_call1.v5 main_call1.v10 main_call1.v11 subf ]

/-- The winning indices as a column. -/
def opsD : List (HloOp τ sig (Elt F)) :=
  [ StableHlo.unary main_v3 main_v5 (broadcastInDim S8x1 ![0] bcast_S8_S8x1_0 : (⟨S8, .i32⟩ : BufTy).Contents (Elt F) → (⟨S8x1, .i32⟩ : BufTy).Contents (Elt F)) ]

/-- The entry taken. -/
def opsE : List (HloOp τ sig (Elt F)) :=
  [ StableHlo.TRef.nullary main_call2.c (constantI S_ 32 0#32),
    StableHlo.TRef.unary main_call2.c main_call2.v0 (broadcastInDim S8x1 ![] bcast_S_S8x1),
    StableHlo.TRef.binary (.of main_v5 : TRef sig ⟨S8x1, .i32⟩) main_call2.v0 main_call2.v1 (cmpi .slt),
    StableHlo.TRef.nullary main_call2.c_0 (constantI S_ 32 2048#32),
    StableHlo.TRef.unary main_call2.c_0 main_call2.v2 (broadcastInDim S8x1 ![] bcast_S_S8x1),
    StableHlo.TRef.binary (.of main_v5 : TRef sig ⟨S8x1, .i32⟩) main_call2.v2 main_call2.v3 addi,
    StableHlo.TRef.ternary main_call2.v1 main_call2.v3 (.of main_v5 : TRef sig ⟨S8x1, .i32⟩) main_call2.v4 select,
    StableHlo.TRef.reshape main_call2.v4 main_call2.v5 (rfl : (.i32 : EltTy) = .i32) shapeCasts_S8x1_S8x1x1,
    StableHlo.TRef.nullary main_call2.c_1 (constantI S1 32 2047#32),
    StableHlo.TRef.nullary main_call2.c_2 (constantI S_ 32 0#32),
    StableHlo.TRef.unary main_call2.c_2 main_call2.v6 (broadcastInDim S8x1x1 ![] bcast_S_S8x1x1),
    StableHlo.TRef.binary main_call2.v5 main_call2.v6 main_call2.v7 (cmpi .sge),
    StableHlo.TRef.unary main_call2.c_1 main_call2.v8 (broadcastInDim S1x1x1 ![2] bcast_S1_S1x1x1_2),
    StableHlo.TRef.unary main_call2.v8 main_call2.v9 (broadcastInDim S8x1x1 ![0, 1, 2] bcast_S1x1x1_S8x1x1_0_1_2),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S8x1x1_S8x1_d2 h_S_),
    StableHlo.TRef.binary (.of main_v4 : TRef sig ⟨S8x2048, .f32⟩) main_call2.v5 main_call2.v13 (fun x i => Host.gather gather_S8x2048_S8x1x1_S8x1_n_1_0_0_1_2_11 x i),
    StableHlo.TRef.nullary main_call2.cst (constant S_ .f32 0x7FC00000#32),
    StableHlo.TRef.unary main_call2.cst main_call2.v14 (broadcastInDim S8x1 ![] bcast_S_S8x1),
    StableHlo.TRef.ternary main_call2.v12 main_call2.v13 main_call2.v14 main_call2.v15 select ]

/-- The column again, as the first result. -/
def opsG : List (HloOp τ sig (Elt F)) :=
  [ StableHlo.unary main_v3 main_v7 (broadcastInDim S8x1 ![0] bcast_S8_S8x1_0 : (⟨S8, .i32⟩ : BufTy).Contents (Elt F) → (⟨S8x1, .i32⟩ : BufTy).Contents (Elt F)) ]

/-- The whole program's operations. -/
def opsAll : List (HloOp τ sig (Elt F)) := opsA ++ (opsB ++ (opsC ++ (opsD ++ (opsE ++ opsG))))

/-- A straight line, then another, is their concatenation. -/
theorem isSeq_append {p k : Prog (TpuEff nD τ sig (Elt F) (Pipeline.Sig Λ₀ (Fin 0) fun p => (pcfgs (F := F) p).Adm) .tc) PUnit}
    {l l' : List (HloOp τ sig (Elt F))} (hp : IsSeq p l) (hk : IsSeq k l') : IsSeq (p >>= fun _ => k) (l ++ l') := by
  unfold IsSeq at hp hk ⊢
  rw [hp, hk, seq_append]

/-- The argmax is the straight line of its operations. -/
theorem argmax_seq : IsSeq (fn_argmax.body (F := F) (.of main_v2) main_call0) opsB := by
  unfold fn_argmax.body opsB; hlo_seq

/-- The log-softmax is the straight line of its operations. -/
theorem log_softmax_seq : IsSeq (fn_log_softmax.body (F := F) (.of main_v1) main_call1) opsC := by
  unfold fn_log_softmax.body opsC; hlo_seq

/-- The taking is the straight line of its operations. -/
theorem take_along_axis_seq : IsSeq (fn_take_along_axis.body (F := F) (.of main_v4) (.of main_v5) main_call2) opsE := by
  unfold fn_take_along_axis.body opsE; hlo_seq

/-- The program is the straight line of its operations. -/
theorem main_seq (d : Dev nD) : IsSeq (main (F := F) d) opsAll := by
  have hG : IsSeq (Λ := (Pipeline.Sig Λ₀ (Fin 0) fun p => (pcfgs (F := F) p).Adm)) (nD := nD) _ (opsG (F := F)) := .cons .nil
  have hE := isSeq_append (take_along_axis_seq (F := F)) hG
  have hD : IsSeq (Λ := (Pipeline.Sig Λ₀ (Fin 0) fun p => (pcfgs (F := F) p).Adm)) (nD := nD) _ (opsD ++ (opsE ++ opsG (F := F))) := .cons hE
  have hB := isSeq_append (argmax_seq (F := F)) (isSeq_append (log_softmax_seq (F := F)) hD)
  exact .cons (.cons (.cons (.cons hB)))

/-! ## Each stage's result, and what it leaves alone -/

section Stages

variable (V : Valuation τ sig (Elt F))

/-- The first stage leaves the logits. -/
theorem opsA_v1 : StableHlo.after opsA V (Proc.devRef .tc main_v1) = logits (V (Proc.devRef .tc main_arg0)) (V (Proc.devRef .tc main_arg1)) (V (Proc.devRef .tc main_arg2)) := by
  unfold opsA; after_results; rfl

/-- The first stage leaves the perturbed logits. -/
theorem opsA_v2 : StableHlo.after opsA V (Proc.devRef .tc main_v2) = addf (logits (V (Proc.devRef .tc main_arg0)) (V (Proc.devRef .tc main_arg1)) (V (Proc.devRef .tc main_arg2))) noise := by
  unfold opsA; after_results; rfl

/-- The argmax leaves the winning indices. -/
theorem opsB_v3 : StableHlo.after opsB V (Proc.devRef .tc main_v3) = winner (V (Proc.devRef .tc main_v2)) := by
  unfold opsB; after_results; rfl

/-- The log-softmax leaves its array. -/
theorem opsC_v4 : StableHlo.after opsC V (Proc.devRef .tc main_v4) = logSoftmax (V (Proc.devRef .tc main_v1)) := by
  unfold opsC; after_results; rfl

/-- The taking leaves the entries taken. -/
theorem opsE_v6 : StableHlo.after opsE V (Proc.devRef .tc main_v6) = taken (V (Proc.devRef .tc main_v4)) (V (Proc.devRef .tc main_v5)) := by
  unfold opsE; after_results; unfold taken inRow wrapped; rfl

/-- The column of winning indices, read before the taking. -/
theorem opsD_v5 : after opsD V (Proc.devRef .tc main_v5) = broadcastInDim S8x1 ![0] bcast_S8_S8x1_0 (V (Proc.devRef .tc main_v3)) := by
  unfold opsD; after_results

/-- The column of winning indices, as the first result. -/
theorem opsG_v7 : after opsG V (Proc.devRef .tc main_v7) = broadcastInDim S8x1 ![0] bcast_S8_S8x1_0 (V (Proc.devRef .tc main_v3)) := by
  unfold opsG; after_results

/-- The argmax leaves the logits alone. -/
theorem opsB_v1 : after opsB V (Proc.devRef .tc main_v1) = V (Proc.devRef .tc main_v1) := by unfold opsB; after_results
/-- The log-softmax leaves the winning indices alone. -/
theorem opsC_v3 : after opsC V (Proc.devRef .tc main_v3) = V (Proc.devRef .tc main_v3) := by unfold opsC; after_results
/-- The column's copy leaves the winning indices alone. -/
theorem opsD_v3 : after opsD V (Proc.devRef .tc main_v3) = V (Proc.devRef .tc main_v3) := by unfold opsD; after_results
/-- The column's copy leaves the log-softmax alone. -/
theorem opsD_v4 : after opsD V (Proc.devRef .tc main_v4) = V (Proc.devRef .tc main_v4) := by unfold opsD; after_results
/-- The taking leaves the winning indices alone. -/
theorem opsE_v3 : after opsE V (Proc.devRef .tc main_v3) = V (Proc.devRef .tc main_v3) := by unfold opsE; after_results
/-- The last copy leaves the entries taken alone. -/
theorem opsG_v6 : after opsG V (Proc.devRef .tc main_v6) = V (Proc.devRef .tc main_v6) := by unfold opsG; after_results

/-- The fold over the whole program is the stages' folds in turn. -/
theorem opsAll_after : after opsAll V = after opsG (after opsE (after opsD (after opsC (after opsB (after opsA V))))) := rfl

/-- The program's first result. -/
theorem all_v7 : after opsAll V (Proc.devRef .tc main_v7)
    = actRes (V (Proc.devRef .tc main_arg0)) (V (Proc.devRef .tc main_arg1)) (V (Proc.devRef .tc main_arg2)) := by
  rw [opsAll_after, opsG_v7, opsE_v3, opsD_v3, opsC_v3, opsB_v3, opsA_v2]; rfl

/-- The program's second result. -/
theorem all_v6 : after opsAll V (Proc.devRef .tc main_v6)
    = lpRes (V (Proc.devRef .tc main_arg0)) (V (Proc.devRef .tc main_arg1)) (V (Proc.devRef .tc main_arg2)) := by
  rw [opsAll_after, opsG_v6, opsE_v6, opsD_v4, opsC_v4, opsB_v1, opsA_v1, opsD_v5, opsC_v3, opsB_v3, opsA_v2]; rfl

/-- The program leaves its first argument alone. -/
theorem all_arg0 : after opsAll V (Proc.devRef .tc main_arg0) = V (Proc.devRef .tc main_arg0) := by
  rw [opsAll_after]; unfold opsA opsB opsC opsD opsE opsG; after_results

/-- The program leaves its second argument alone. -/
theorem all_arg1 : after opsAll V (Proc.devRef .tc main_arg1) = V (Proc.devRef .tc main_arg1) := by
  rw [opsAll_after]; unfold opsA opsB opsC opsD opsE opsG; after_results

/-- The program leaves its third argument alone. -/
theorem all_arg2 : after opsAll V (Proc.devRef .tc main_arg2) = V (Proc.devRef .tc main_arg2) := by
  rw [opsAll_after]; unfold opsA opsB opsC opsD opsE opsG; after_results

end Stages

/-! ## The run -/

/-- Every operation names device buffers only. -/
theorem ops_bufs : (opsAll (F := F)).Forall fun op => op.bufs ⊆ tcRefs τ sig := by
  simp [opsAll, opsA, opsB, opsC, opsD, opsE, opsG]

/-- No operation takes a buffer of unknown contents. -/
theorem ops_fresh : ∀ op ∈ (opsAll (F := F)), op.fresh = ∅ := by
  unfold opsAll opsA opsB opsC opsD opsE opsG
  intro _ h
  (repeat (cases h with | head => rfl | tail _ h => ?_))
  exact nomatch h

/-- Every run ends with the two results at their functions of the arguments, the arguments as launched. -/
theorem run_results (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c : Thread nD τ).loc main_v7) = actRes (m ((c : Thread nD τ).loc main_arg0)) (m ((c : Thread nD τ).loc main_arg1)) (m ((c : Thread nD τ).loc main_arg2))
      ∧ r.2.mem ((c : Thread nD τ).loc main_v6) = lpRes (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  θ_run_mono (run_hlo defs main main_seq (by decide) (by decide) ops_bufs ops_fresh m ρ) fun r h c =>
    ⟨(h c main_v7).trans (all_v7 _), (h c main_v6).trans (all_v6 _), (h c main_arg0).trans (all_arg0 _),
      (h c main_arg1).trans (all_arg1 _), (h c main_arg2).trans (all_arg2 _)⟩

/-- Every run ends with the arguments as launched and every counter at zero. -/
theorem run_quiescent (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0 :=
  θ_run_mono (run_results m ρ) fun r h => ⟨fun c => (h c).2.2, sem_eq_zero_of_no_sems (by decide) r.2⟩

end Cert.ReferenceIdeal.Body
end
-- ==== Proof.Rows.lean ====
/- Facts about one row of 2048 extended reals that both programs' results rest on: the least index that attains the
   row's largest value, and the log of the softmax with and without the largest value taken off first. -/
module

public import Idealize.ShloMosaic.PureOps.Ideal.Laws
public import Idealize.ShloMosaic.Lib.Pointwise

@[expose] public section

noncomputable section

namespace Cert.Rows

open Idealize.ShloMosaic

/-! ## The winner of a row -/

/-- `k` is the least index at which the row `p` attains its largest value. -/
def IsWinner (p : Fin 2048 → EReal) (k : Fin 2048) : Prop := ∀ j, p j ≤ p k ∧ (p j = p k → k ≤ j)

/-- A row has one winner. -/
theorem IsWinner.unique {p : Fin 2048 → EReal} {k k' : Fin 2048} (h : IsWinner p k) (h' : IsWinner p k') : k = k' := by
  have e : p k = p k' := le_antisymm (h' k).1 (h k').1
  exact le_antisymm ((h k').2 e.symm) ((h' k).2 e)

/-! ## Signed words that hold indices -/

/-- A number below `2 ^ 31` as a 32-bit word reads back, signed, as itself. -/
theorem toInt_ofNat {n : ℕ} (hn : n < 2 ^ 31) : (BitVec.ofNat 32 n).toInt = (n : ℤ) := by
  rw [BitVec.toInt_eq_toNat_cond, BitVec.toNat_ofNat, Nat.mod_eq_of_lt (by omega), if_pos (by omega)]

/-- The signed minimum of finitely many words and a bound is one of them, and at most each of them. -/
theorem fold_minsi {ι : Type} [DecidableEq ι] (b : BitVec 32) (f : ι → BitVec 32) (s : Finset ι) :
    (Finset.fold IntOp.minsi b f s = b ∨ ∃ x ∈ s, Finset.fold IntOp.minsi b f s = f x)
      ∧ (Finset.fold IntOp.minsi b f s).toInt ≤ b.toInt
      ∧ ∀ x ∈ s, (Finset.fold IntOp.minsi b f s).toInt ≤ (f x).toInt := by
  induction s using Finset.induction_on with
  | empty => exact ⟨.inl rfl, le_refl _, fun x hx => absurd hx (Finset.notMem_empty x)⟩
  | insert a s ha ih =>
    rw [Finset.fold_insert ha]
    obtain ⟨h1, h2, h3⟩ := ih
    generalize Finset.fold IntOp.minsi b f s = r at h1 h2 h3 ⊢
    unfold IntOp.minsi
    by_cases hlt : (f a).slt r
    · rw [if_pos hlt]
      have hlt' : (f a).toInt < r.toInt := by simpa [BitVec.slt] using hlt
      refine ⟨.inr ⟨a, Finset.mem_insert_self a s, rfl⟩, by omega, fun x hx => ?_⟩
      rcases Finset.mem_insert.1 hx with rfl | hx
      · exact le_refl _
      · have := h3 x hx; omega
    · rw [if_neg hlt]
      have hle : r.toInt ≤ (f a).toInt := by simpa [BitVec.slt] using hlt
      refine ⟨h1.imp id fun ⟨x, hx, e⟩ => ⟨x, Finset.mem_insert_of_mem hx, e⟩, h2, fun x hx => ?_⟩
      rcases Finset.mem_insert.1 hx with rfl | hx
      · exact hle
      · exact h3 x hx

/-! ## The largest value of finitely many -/

/-- The maximum over a finite family from `⊥` bounds each member. -/
theorem le_fold_max {ι : Type} [Fintype ι] (f : ι → EReal) (x : ι) : f x ≤ Finset.univ.fold max ⊥ f :=
  (Finset.le_fold_max (f x)).2 (.inr ⟨x, Finset.mem_univ x, le_refl _⟩)

/-- The maximum over a finite family from `⊥` is at most any bound of its members. -/
theorem fold_max_le {ι : Type} [Fintype ι] (f : ι → EReal) {c : EReal} (h : ∀ x, f x ≤ c) : Finset.univ.fold max ⊥ f ≤ c :=
  (Finset.fold_max_le c).2 ⟨bot_le, fun x _ => h x⟩

/-- The maximum over a nonempty finite family is attained. -/
theorem exists_eq_fold_max {ι : Type} [Fintype ι] [Nonempty ι] (f : ι → EReal) : ∃ x, f x = Finset.univ.fold max ⊥ f := by
  obtain ⟨x, hx⟩ := Finite.exists_max f
  exact ⟨x, le_antisymm (le_fold_max f x) (fold_max_le f hx)⟩

/-! ## The log-softmax -/

/-- A finite sum of reals is the same sum of extended reals. -/
theorem coe_sum {ι : Type} (s : Finset ι) (e : ι → ℝ) : ∑ j ∈ s, (e j : EReal) = ((∑ j ∈ s, e j : ℝ) : EReal) := by
  classical
  induction s using Finset.induction_on with
  | empty => rfl
  | insert a s ha ih => rw [Finset.sum_insert ha, Finset.sum_insert ha, ih, EReal.coe_add]

/-- The exponential of `⊥` is zero. -/
theorem exp_bot : Ideal.exp ⊥ = 0 := rfl
/-- The exponential of `⊤` is `⊤`. -/
theorem exp_top : Ideal.exp ⊤ = ⊤ := rfl
/-- The exponential of a real is the real exponential. -/
theorem exp_coe (r : ℝ) : Ideal.exp (r : EReal) = (Real.exp r : EReal) := rfl
/-- The logarithm of `⊤` is `⊤`. -/
theorem log_top : Ideal.log ⊤ = ⊤ := rfl
/-- The logarithm of a positive real is the real logarithm. -/
theorem log_coe {r : ℝ} (h : 0 < r) : Ideal.log (r : EReal) = (Real.log r : EReal) := by
  show (if r ≤ 0 then ⊥ else (Real.log r : EReal)) = _
  rw [if_neg (not_le.2 h)]

/-- No exponential is negative. -/
theorem exp_nonneg (x : EReal) : 0 ≤ Ideal.exp x := by
  induction x with
  | bot => exact le_refl _
  | top => exact le_top
  | coe r => rw [exp_coe]; exact_mod_cast (Real.exp_pos r).le

/-- Taking the row's largest value off first does not change the log-softmax of a row, whatever infinities it holds. -/
theorem log_softmax (l : Fin 2048 → EReal) (k : Fin 2048) :
    (l k - Finset.univ.fold max ⊥ l) - Ideal.log (∑ j, Ideal.exp (l j - Finset.univ.fold max ⊥ l))
      = l k - Ideal.log (∑ j, Ideal.exp (l j)) := by
  have hle : ∀ j, l j ≤ Finset.univ.fold max ⊥ l := le_fold_max l
  obtain ⟨i, hi⟩ := exists_eq_fold_max l
  generalize Finset.univ.fold max ⊥ l = m at hle hi ⊢
  by_cases hk : l k = ⊥
  · rw [hk]; simp only [sub_eq_add_neg, EReal.bot_add]
  induction m with
  | bot => exact absurd (le_bot_iff.1 (hle k)) hk
  | top =>
    have hs : (∑ j, Ideal.exp (l j)) = ⊤ := by
      refine le_antisymm le_top ?_
      calc (⊤ : EReal) = Ideal.exp (l i) := by rw [hi]; rfl
        _ ≤ _ := Finset.single_le_sum (f := fun j => Ideal.exp (l j)) (fun j _ => exp_nonneg _) (Finset.mem_univ i)
    rw [hs, log_top]
    simp only [sub_eq_add_neg, EReal.neg_top, EReal.add_bot, EReal.bot_add]
  | coe m =>
    -- each entry is a real or `⊥`
    have hex : ∀ j, ∃ e : ℝ, 0 ≤ e ∧ Ideal.exp (l j) = (e : EReal) ∧ Ideal.exp (l j - (m : EReal)) = ((e * Real.exp (-m) : ℝ) : EReal) := by
      intro j
      have hj := hle j
      generalize l j = x at hj ⊢
      induction x with
      | bot => exact ⟨0, le_refl _, rfl, by rw [zero_mul, sub_eq_add_neg, EReal.bot_add]; rfl⟩
      | top => exact absurd (top_le_iff.1 hj) (EReal.coe_ne_top m)
      | coe r =>
        refine ⟨Real.exp r, (Real.exp_pos r).le, rfl, ?_⟩
        rw [← EReal.coe_sub, exp_coe, ← Real.exp_add, sub_eq_add_neg]
    choose e he0 he1 he2 using hex
    have hei : e i = Real.exp m := by
      have := he1 i
      rw [hi, exp_coe] at this
      exact_mod_cast this.symm
    have hpos : 0 < ∑ j, e j := lt_of_lt_of_le (by rw [hei]; exact Real.exp_pos m)
      (Finset.single_le_sum (f := e) (fun j _ => he0 j) (Finset.mem_univ i))
    have hs1 : (∑ j, Ideal.exp (l j)) = ((∑ j, e j : ℝ) : EReal) := by
      rw [Finset.sum_congr rfl fun j _ => he1 j, coe_sum]
    have hs2 : (∑ j, Ideal.exp (l j - (m : EReal))) = (((∑ j, e j) * Real.exp (-m) : ℝ) : EReal) := by
      rw [Finset.sum_congr rfl fun j _ => he2 j, coe_sum, Finset.sum_mul]
    rw [hs1, hs2, log_coe hpos, log_coe (mul_pos hpos (Real.exp_pos _)), Real.log_mul hpos.ne' (Real.exp_pos _).ne', Real.log_exp]
    have hk' := hle k
    generalize l k = x at hk hk' ⊢
    induction x with
    | bot => exact absurd rfl hk
    | top => exact absurd (top_le_iff.1 hk') (EReal.coe_ne_top m)
    | coe r =>
      norm_cast
      ring

end Cert.Rows

end
-- ==== Proof.ValueIdeal.lean ====
/- The kernel's two results over the extended reals, read at an agent: the winner of the agent's row, and the winner's
   logit less the log of the sum of the row's exponentials. -/
module

public import proofs.«01_k».proof.Proof.ResultIdeal
public import proofs.«01_k».proof.Proof.Rows
public import Idealize.ShloMosaic.PureOps.IdealRules
public import Idealize.ShloMosaic.Lib.Pointwise

@[expose] public section

set_option maxRecDepth 20000

noncomputable section

namespace Cert.KernelIdeal.Body

open Cert.KernelIdeal Cert.KernelIdeal.Gen Cert.Rows
open Idealize.ShloMosaic

/-- Position `(r, j)` of a row laid out as 8 by 256. -/
def pos (x : Fin 8 × Fin 256) : Fin 2048 := ⟨x.1.val * 256 + x.2.val, by omega⟩

/-- Every position of a row is some `(r, j)`. -/
theorem pos_surj (k : Fin 2048) : ∃ x, pos x = k :=
  ⟨(⟨k.val / 256, by omega⟩, ⟨k.val % 256, by omega⟩), Fin.ext (by show k.val / 256 * 256 + k.val % 256 = k.val; omega)⟩

/-- Two positions of a row laid out as 8 by 256 that agree are one. -/
theorem pos_inj {x y : Fin 8 × Fin 256} (h : pos x = pos y) : x = y := by
  have h' : x.1.val * 256 + x.2.val = y.1.val * 256 + y.2.val := congrArg Fin.val h
  exact Prod.ext (Fin.ext (by omega)) (Fin.ext (by omega))

/-- The index word the kernel builds at `(r, j)` is the position's. -/
theorem word_eq (x : Fin 8 × Fin 256) :
    IntOp.addi (IntOp.muli (256#32) (BitVec.ofNat 32 x.1.val)) (BitVec.ofNat 32 x.2.val) = BitVec.ofNat 32 (pos x).val := by
  unfold IntOp.addi IntOp.muli pos
  apply BitVec.eq_of_toNat_eq
  simp only [BitVec.toNat_add, BitVec.toNat_mul, BitVec.toNat_ofNat]
  omega

section Payloads

variable (A : Vec Ideal S8x256 .f32) (B G : Vec Ideal S1x8x256 .f32)
  (l p : Fin 2048 → EReal)
  (hl : ∀ x : Fin 8 × Fin 256, A (ix2 x.1 x.2) + B (ix3 0 x.1 x.2) = l (pos x))
  (hp : ∀ x : Fin 8 × Fin 256, A (ix2 x.1 x.2) + B (ix3 0 x.1 x.2) + G (ix3 0 x.1 x.2) = p (pos x))

include hp in
/-- The index the kernel picks is the row's winner. -/
theorem pay4_winner : ∃ k, IsWinner p k ∧ k0_pay4 A B G (ix2 0 0) = BitVec.ofNat 32 k.val := by
  have e : k0_pay4 A B G (ix2 0 0) = Finset.univ.fold IntOp.minsi (2147483647#32) (fun x : Fin 8 × Fin 256 =>
      if p (pos x) = Finset.univ.fold max ⊥ (fun x => p (pos x)) then BitVec.ofNat 32 (pos x).val else 1073741824#32) := by
    have hbot : Ideal.ofBits FTy.f32 4286578688#32 = ⊥ := by simp [Ideal.ofBits, Ideal.ieee]
    pointwise [k0_pay4, k0_pay2, k0_pay3]
    simp only [hp, hbot, word_eq]
  rw [e]
  obtain ⟨x, hx⟩ := exists_eq_fold_max (fun x : Fin 8 × Fin 256 => p (pos x))
  have hle := le_fold_max (fun x : Fin 8 × Fin 256 => p (pos x))
  generalize Finset.univ.fold max ⊥ (fun x : Fin 8 × Fin 256 => p (pos x)) = m at hx hle ⊢
  obtain ⟨h1, -, h3⟩ := fold_minsi (2147483647#32) (fun x : Fin 8 × Fin 256 => if p (pos x) = m then BitVec.ofNat 32 (pos x).val else 1073741824#32) Finset.univ
  generalize Finset.univ.fold IntOp.minsi (2147483647#32) (fun x : Fin 8 × Fin 256 => if p (pos x) = m then BitVec.ofNat 32 (pos x).val else 1073741824#32) = r at h1 h3 ⊢
  have hint : ∀ k : Fin 2048, (BitVec.ofNat 32 k.val).toInt = (k.val : ℤ) := fun k => toInt_ofNat (by omega)
  have hsm : r.toInt ≤ (pos x).val := by
    have := h3 x (Finset.mem_univ x)
    rwa [if_pos hx, hint] at this
  have hlt : (pos x).val < 2048 := (pos x).isLt
  have hbig1 : (2147483647#32).toInt = 2147483647 := rfl
  have hbig2 : (1073741824#32).toInt = 1073741824 := rfl
  rcases h1 with rfl | ⟨y, -, hy⟩
  · omega
  · by_cases hm : p (pos y) = m
    · rw [if_pos hm] at hy
      refine ⟨pos y, fun j => ?_, hy⟩
      obtain ⟨z, rfl⟩ := pos_surj j
      refine ⟨by rw [hm]; exact hle z, fun hz => ?_⟩
      have := h3 z (Finset.mem_univ z)
      rw [if_pos (hz.trans hm), hint, hy, hint] at this
      exact Fin.le_def.2 (by exact_mod_cast this)
    · rw [if_neg hm] at hy
      rw [hy] at hsm; omega

include hl in
/-- The value the kernel reads out at the picked index is the row's entry there. -/
theorem pay5_entry (k : Fin 2048) (hk : k0_pay4 A B G (ix2 0 0) = BitVec.ofNat 32 k.val) : k0_pay5 A B G (ix2 0 0) = l k := by
  have e : k0_pay5 A B G (ix2 0 0) = Finset.univ.fold max ⊥ (fun x : Fin 8 × Fin 256 =>
      Scalar.select (IntOp.cmpi .eq (BitVec.ofNat 32 (pos x).val) (BitVec.ofNat 32 k.val)) (l (pos x)) ⊥) := by
    have hbot : Ideal.ofBits FTy.f32 4286578688#32 = ⊥ := by simp [Ideal.ofBits, Ideal.ieee]
    rw [k0_pay5]
    generalize k0_pay4 A B G = I at hk ⊢
    rw [IdealRules.named_const.ideal_named_scalar _ _ _ _ rfl]
    pointwise [k0_pay2, k0_pay3]
    simp only [hl, hbot, word_eq, hk]
  rw [e]
  obtain ⟨z, rfl⟩ := pos_surj k
  have hsel : ∀ x : Fin 8 × Fin 256, Scalar.select (IntOp.cmpi .eq (BitVec.ofNat 32 (pos x).val) (BitVec.ofNat 32 (pos z).val)) (l (pos x)) ⊥
      = if x = z then l (pos z) else ⊥ := by
    intro x
    by_cases hxz : x = z
    · subst hxz
      rw [if_pos rfl]
      have : IntOp.cmpi .eq (BitVec.ofNat 32 (pos x).val) (BitVec.ofNat 32 (pos x).val) = 1#1 := by simp [IntOp.cmpi]
      rw [this]; rfl
    · rw [if_neg hxz]
      have hne : BitVec.ofNat 32 (pos x).val ≠ BitVec.ofNat 32 (pos z).val := by
        intro h
        have h' := congrArg BitVec.toNat h
        have h1 := (pos x).isLt
        have h2 := (pos z).isLt
        rw [BitVec.toNat_ofNat, BitVec.toNat_ofNat, Nat.mod_eq_of_lt (by omega), Nat.mod_eq_of_lt (by omega)] at h'
        exact hxz (pos_inj (Fin.ext h'))
      have : IntOp.cmpi .eq (BitVec.ofNat 32 (pos x).val) (BitVec.ofNat 32 (pos z).val) = 0#1 :=
        congrArg BitVec.ofBool (beq_false_of_ne hne)
      rw [this]; rfl
  simp only [hsel]
  refine le_antisymm (fold_max_le _ fun x => ?_) ?_
  · split
    · exact le_refl _
    · exact bot_le
  · have := le_fold_max (fun x : Fin 8 × Fin 256 => if x = z then l (pos z) else ⊥) z
    rwa [if_pos rfl] at this

include hl in
/-- The log of the sum of exponentials the kernel takes is the row's. -/
theorem pay6_sum : k0_pay6 A B (ix2 0 0) = Ideal.log (∑ k, Ideal.exp (l k)) := by
  have e : k0_pay6 A B (ix2 0 0) = Ideal.log (∑ r : Fin 8, ∑ j : Fin 256, Ideal.exp (l (pos (r, j)))) := by
    pointwise [k0_pay6, k0_pay2]
    refine congrArg Ideal.log (Finset.sum_congr rfl fun r _ => Finset.sum_congr rfl fun j _ => ?_)
    exact congrArg Ideal.exp (hl (r, j))
  rw [e, ← Finset.sum_product' Finset.univ Finset.univ (fun r j => Ideal.exp (l (pos (r, j)))), Finset.univ_product_univ]
  exact congrArg Ideal.log (Fintype.sum_bijective pos ⟨fun _ _ => pos_inj, pos_surj⟩ _ _ fun x => rfl)

end Payloads

/-! ## The two results -/

/-- An agent's row of logits. -/
def row (x : S8x2048.Idx → EReal) (w : S8x2048x2048.Idx → EReal) (b : S8x2048.Idx → EReal) (a : Fin 8) (k : Fin 2048) : EReal :=
  (∑ j : Fin 2048, x (ix2 a j) * w (ix3 a k j)) + b (ix2 a k)

/-- An agent's row of logits, perturbed by the noise. -/
def pert (x : S8x2048.Idx → EReal) (w : S8x2048x2048.Idx → EReal) (b : S8x2048.Idx → EReal) (a : Fin 8) (k : Fin 2048) : EReal :=
  row x w b a k + noise (F := Ideal) (ix2 a k)

section Results

variable (x : S8x2048.Idx → Elt Ideal .f32) (w : S8x2048x2048.Idx → Elt Ideal .f32) (b : S8x2048.Idx → Elt Ideal .f32) (a : Fin 8)

/-- An agent's accumulated products. -/
theorem accOf_at (r : Fin 8) (j : Fin 256) :
    accOf x w a (ix2 r j) = ∑ i : Fin 2048, x (ix2 a i) * w (ix3 a (pos (r, j)) i) := by
  unfold accOf
  show rowOf x w (Ring.bk 64 (8 * a.val + r.val)) (ix2 (n0 := 1) (n1 := 256) 0 j) = _
  unfold rowOf
  pointwise [k0_pay8]
  have hb : (Ring.bk 64 (8 * a.val + r.val)).val = 8 * a.val + r.val := by
    show (8 * a.val + r.val) % 64 = _
    omega
  refine Finset.sum_congr rfl fun i _ => ?_
  unfold xPart wPart
  have e1 : (⟨(Ring.bk 64 (8 * a.val + r.val)).val / 8, by omega⟩ : Fin 8) = a := Fin.ext (by show (Ring.bk 64 _).val / 8 = _; rw [hb]; omega)
  have e2 : (⟨(Ring.bk 64 (8 * a.val + r.val)).val % 8 * 256 + j.val, by omega⟩ : Fin 2048) = pos (r, j) :=
    Fin.ext (by show (Ring.bk 64 _).val % 8 * 256 + j.val = r.val * 256 + j.val; rw [hb]; omega)
  exact congr (congrArg HMul.hMul (congrArg (fun q => x (ix2 q i)) e1))
    ((congrArg (fun q => w (ix3 q _ i)) e1).trans (congrArg (fun q => w (ix3 a q i)) e2))

/-- A slab of an array laid out as 8 by 8 by 256, at a position. -/
theorem slab_at (v : S8x2048.Idx → Elt Ideal .f32) (r : Fin 8) (j : Fin 256) :
    slab (F := Ideal) (shapeCast S8x8x256 v shapeCasts_S8x2048_S8x8x256) a (ix3 0 r j) = v (ix2 a (pos (r, j))) := by
  unfold slab
  show shapeCast S8x8x256 v shapeCasts_S8x2048_S8x8x256 (ix3 a r j) = _
  pointwise [pos]

/-- The first result at an agent is the winner of its perturbed row, and the second its log-probability. -/
theorem results_at : ∃ k, IsWinner (pert x w b a) k ∧ actRes (F := Ideal) x w b (ix2 a 0) = BitVec.ofNat 32 k.val
    ∧ lpRes (F := Ideal) x w b (ix2 a 0) = row x w b a k - Ideal.log (∑ j, Ideal.exp (row x w b a j)) := by
  have hl : ∀ y : Fin 8 × Fin 256, accOf x w a (ix2 y.1 y.2)
      + slab (F := Ideal) (shapeCast S8x8x256 b shapeCasts_S8x2048_S8x8x256) a (ix3 0 y.1 y.2) = row x w b a (pos y) := fun y => by
    rw [accOf_at, slab_at]; rfl
  have hp : ∀ y : Fin 8 × Fin 256, accOf x w a (ix2 y.1 y.2)
      + slab (F := Ideal) (shapeCast S8x8x256 b shapeCasts_S8x2048_S8x8x256) a (ix3 0 y.1 y.2)
      + slab (F := Ideal) (shapeCast S8x8x256 noise shapeCasts_S8x2048_S8x8x256) a (ix3 0 y.1 y.2) = pert x w b a (pos y) := fun y => by
    rw [hl, slab_at]; rfl
  obtain ⟨k, hk, e⟩ := pay4_winner _ _ _ _ hp
  refine ⟨k, hk, ?_, ?_⟩
  · rw [← e]
    unfold actRes
    pointwise [actAll, actOf, k0_pay7]
  · rw [← pay5_entry _ _ _ _ hl k e, ← pay6_sum _ _ _ hl]
    unfold lpRes
    pointwise [lpAll, lpOf, k0_pay1]

end Results

end Cert.KernelIdeal.Body

end
-- ==== Proof.ValueRef.lean ====
/- The reference's two results over the extended reals, read at an agent: the winner of the agent's row, and the
   log-softmax of the row at the winner. -/
module

public import proofs.«01_k».proof.Proof.RefRun
public import proofs.«01_k».proof.Proof.Rows
public import Idealize.ShloMosaic.Lib.Pointwise

@[expose] public section

set_option maxRecDepth 20000

noncomputable section

namespace Cert.ReferenceIdeal.Body

open Cert.ReferenceIdeal Cert.ReferenceIdeal.Gen Cert.Rows
open Idealize.ShloMosaic

/-! ## The argmax -/

/-- The argmax's body over the extended reals: the left pair where its value is greater, or equal with a lesser index. -/
theorem reducer_eq (p q : EReal × BitVec 32) : reducer_argmax_f32_i32 (F := Ideal) p q
    = if q.1 < p.1 ∨ (p.1 = q.1 ∧ p.2.toInt < q.2.toInt) then p else q := by
  obtain ⟨u, i⟩ := p
  obtain ⟨v, j⟩ := q
  unfold reducer_argmax_f32_i32
  have h2 : FloatOps.cmpf (F := Ideal) (φ := .f32) .ogt u v = BitVec.ofBool (decide (v < u)) := rfl
  have h3 : FloatOps.cmpf (F := Ideal) (φ := .f32) .une u u = 0#1 := by simp [Ideal.cmpf_def, Ideal.cmp]
  have h5 : FloatOps.cmpf (F := Ideal) (φ := .f32) .oeq u v = BitVec.ofBool (decide (u = v)) := rfl
  have h6 : IntOp.cmpi .slt i j = BitVec.ofBool (decide (i.toInt < j.toInt)) := rfl
  dsimp only
  rw [h2, h3, h5, h6]
  by_cases c1 : v < u
  · have h1 : ∀ t : Bool, 1#1 ||| BitVec.ofBool t = 1#1 := by decide
    simp [c1, IntOp.ori, IntOp.andi, Scalar.select, h1]
  · by_cases c2 : u = v
    · subst c2
      by_cases c3 : i.toInt < j.toInt
      · simp [c3, IntOp.ori, IntOp.andi, Scalar.select]
      · simp [c3, IntOp.ori, IntOp.andi, Scalar.select]
    · simp [c1, c2, IntOp.ori, IntOp.andi, Scalar.select]

/-- `r` comes before or with `p`: its value is greater, or equal with an index that is not greater. -/
def Beats (r p : EReal × BitVec 32) : Prop := p.1 < r.1 ∨ (p.1 = r.1 ∧ r.2.toInt ≤ p.2.toInt)

/-- A pair comes with itself. -/
theorem Beats.refl (p : EReal × BitVec 32) : Beats p p := .inr ⟨rfl, le_refl _⟩

/-- Coming before is transitive. -/
theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- Folding the argmax's body over a list leaves a pair of the list, or the initial one, that beats all of them. -/
theorem foldl_reducer (L : List (EReal × BitVec 32)) (p : EReal × BitVec 32) :
    (L.foldl (reducer_argmax_f32_i32 (F := Ideal)) p = p ∨ L.foldl (reducer_argmax_f32_i32 (F := Ideal)) p ∈ L)
      ∧ Beats (L.foldl (reducer_argmax_f32_i32 (F := Ideal)) p) p
      ∧ ∀ q ∈ L, Beats (L.foldl (reducer_argmax_f32_i32 (F := Ideal)) p) q := by
  induction L generalizing p with
  | nil => exact ⟨.inl rfl, .refl p, fun q hq => absurd hq List.not_mem_nil⟩
  | cons q L ih =>
    rw [List.foldl_cons]
    obtain ⟨h1, h2, h3⟩ := ih (reducer_argmax_f32_i32 (F := Ideal) p q)
    have key : (reducer_argmax_f32_i32 (F := Ideal) p q = p ∨ reducer_argmax_f32_i32 (F := Ideal) p q = q)
        ∧ Beats (reducer_argmax_f32_i32 (F := Ideal) p q) p ∧ Beats (reducer_argmax_f32_i32 (F := Ideal) p q) q := by
      rw [reducer_eq]
      by_cases c : q.1 < p.1 ∨ (p.1 = q.1 ∧ p.2.toInt < q.2.toInt)
      · rw [if_pos c]
        exact ⟨.inl rfl, .refl p, c.imp id fun ⟨e, h⟩ => ⟨e.symm, h.le⟩⟩
      · rw [if_neg c]
        rw [not_or, not_and, not_lt, not_lt] at c
        refine ⟨.inr rfl, ?_, .refl q⟩
        rcases lt_or_eq_of_le c.1 with h | h
        · exact .inl h
        · exact .inr ⟨h, c.2 h⟩
    generalize reducer_argmax_f32_i32 (F := Ideal) p q = r at h1 h2 h3 key ⊢
    generalize L.foldl (reducer_argmax_f32_i32 (F := Ideal)) r = z at h1 h2 h3 ⊢
    refine ⟨?_, h2.trans key.2.1, fun y hy => ?_⟩
    · rcases h1 with rfl | h1
      · rcases key.1 with h | h
        · exact .inl h
        · exact .inr (h ▸ List.mem_cons_self)
      · exact .inr (List.mem_cons_of_mem _ h1)
    · rcases List.mem_cons.1 hy with rfl | hy
      · exact h2.trans key.2.2
      · exact h3 y hy

/-- The pairs the argmax folds over for row `a` are the row's entries, each with its index. -/
theorem mem_fiber (l : S8x2048.Idx → EReal) (a : Fin 8) (q : EReal × BitVec 32) :
    q ∈ Host.argReduceFiber l (iotaInDim S8x2048 32 1) reducesTo_S8x2048_S8_d1 (ix1 a)
      ↔ ∃ k : Fin 2048, q = (l (ix2 a k), BitVec.ofNat 32 k.val) := by
  unfold Host.argReduceFiber
  rw [List.mem_map]
  constructor
  · rintro ⟨n, hn, rfl⟩
    rw [List.mem_filter] at hn
    have hd := of_decide_eq_true hn.2
    generalize S8x2048.rowMajor.symm n = i at hd ⊢
    obtain ⟨a', k, rfl⟩ : ∃ (a' : Fin 8) (k : Fin 2048), i = ix2 a' k := ⟨i 0, i 1, eq_ix2 i⟩
    have ha : a' = a := congrFun hd 0
    subst ha
    exact ⟨k, rfl⟩
  · rintro ⟨k, rfl⟩
    refine ⟨S8x2048.rowMajor (ix2 a k), List.mem_filter.2 ⟨List.mem_finRange _, decide_eq_true ?_⟩, ?_⟩
    · rw [Equiv.symm_apply_apply]
      funext b
      obtain rfl : b = 0 := Subsingleton.elim _ _
      rfl
    · rw [Equiv.symm_apply_apply]; rfl

/-- The index the reference picks in a row is the row's winner. -/
theorem winner_at (l : S8x2048.Idx → EReal) (a : Fin 8) :
    ∃ k, IsWinner (fun j => l (ix2 a j)) k ∧ winner (F := Ideal) l (ix1 a) = BitVec.ofNat 32 k.val := by
  have e : winner (F := Ideal) l (ix1 a) = ((Host.argReduceFiber l (iotaInDim S8x2048 32 1) reducesTo_S8x2048_S8_d1 (ix1 a)).foldl
      (reducer_argmax_f32_i32 (F := Ideal)) ((⊥ : EReal), 0#32)).2 := by
    have hbot : Ideal.ofBits FTy.f32 0xFF800000#32 = ⊥ := by simp [Ideal.ofBits, Ideal.ieee]
    unfold winner
    rw [Ideal.argReduce_eq_reduce2, Host.reduce2_eq_foldl_fiber]
    have hi : (constant S_ .f32 0xFF800000#32 : S_.Idx → Ideal .f32) (Shape.Idx.first h_S_) = (⊥ : EReal) := hbot
    rw [hi]
    rfl
  rw [e]
  obtain ⟨h1, h2, h3⟩ := foldl_reducer (Host.argReduceFiber l (iotaInDim S8x2048 32 1) reducesTo_S8x2048_S8_d1 (ix1 a)) ((⊥ : EReal), 0#32)
  generalize (Host.argReduceFiber l (iotaInDim S8x2048 32 1) reducesTo_S8x2048_S8_d1 (ix1 a)).foldl
      (reducer_argmax_f32_i32 (F := Ideal)) ((⊥ : EReal), 0#32) = r at h1 h2 h3 ⊢
  have hint : ∀ k : Fin 2048, (BitVec.ofNat 32 k.val).toInt = (k.val : ℤ) := fun k => toInt_ofNat (by omega)
  have hb : ∀ j : Fin 2048, Beats r (l (ix2 a j), BitVec.ofNat 32 j.val) := fun j => h3 _ ((mem_fiber l a _).2 ⟨j, rfl⟩)
  have hr : ∃ k : Fin 2048, r = (l (ix2 a k), BitVec.ofNat 32 k.val) := by
    rcases h1 with rfl | h1
    · refine ⟨0, ?_⟩
      rcases hb 0 with h | ⟨h, -⟩
      · exact absurd h not_lt_bot
      · exact Prod.ext h.symm rfl
    · exact (mem_fiber l a r).1 h1
  obtain ⟨k, rfl⟩ := hr
  refine ⟨k, fun j => ?_, rfl⟩
  rcases hb j with h | ⟨h, hi⟩
  · exact ⟨h.le, fun he => absurd he h.ne⟩
  · dsimp only at h hi
    rw [hint, hint] at hi
    exact ⟨h.le, fun _ => Fin.le_def.2 (by exact_mod_cast hi)⟩

/-! ## The entry taken -/

/-- The gather at an agent: the agent's entry at the index given for it, clamped into the row. -/
theorem gather_at (s : S8x2048.Idx → EReal) (i : S8x1x1.Idx → BitVec 32) (a : Fin 8) :
    Host.gather gather_S8x2048_S8x1x1_S8x1_n_1_0_0_1_2_11 s i (ix2 a 0)
      = s (ix2 a ⟨min (i (ix3 a 0 0)).toInt.toNat 2047, by omega⟩) := by
  unfold Host.gather
  congr 1
  funext c
  refine Fin.ext ?_
  show GatherDims.start _ (ix2 a 0) i c + GatherDims.batchCoord _ (ix2 a 0) c + GatherDims.offCoord _ (ix2 a 0) c = _
  have h01 : c = 0 ∨ c = 1 := by
    match c with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin S8x2048.rank) ∈ gather_S8x2048_S8x1x1_S8x1_n_1_0_0_1_2_11.operandBatchingDims from List.mem_singleton.mpr rfl)]
    rfl
  · rw [GatherDims.batchCoord_eq_zero _ _ _ (fun h => by simp [gather_S8x2048_S8x1x1_S8x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin S8x2048.rank) ∈ gather_S8x2048_S8x1x1_S8x1_n_1_0_0_1_2_11.startIndexMap from List.mem_singleton.mpr rfl)]
    have hsi : GatherDims.siIdx gather_S8x2048_S8x1x1_S8x1_n_1_0_0_1_2_11 (ix2 a 0)
        ⟨List.idxOf (1 : Fin 2) gather_S8x2048_S8x1x1_S8x1_n_1_0_0_1_2_11.startIndexMap,
          List.idxOf_lt_length_iff.2 (List.mem_singleton.mpr rfl)⟩ = ix3 a 0 0 := by
      funext b; refine Fin.ext ?_
      match b with
      | ⟨0, _⟩ => rfl
      | ⟨1, _⟩ => rfl
      | ⟨2, _⟩ => rfl
    rw [hsi]
    rfl

/-- The entry taken at an index of the row is the entry there. -/
theorem taken_at (s : S8x2048.Idx → EReal) (i : S8x1.Idx → BitVec 32) (a : Fin 8) (k : Fin 2048)
    (hk : i (ix2 a 0) = BitVec.ofNat 32 k.val) : taken (F := Ideal) s i (ix2 a 0) = s (ix2 a k) := by
  have hint : (BitVec.ofNat 32 k.val).toInt = (k.val : ℤ) := toInt_ofNat (by omega)
  have hlt : IntOp.cmpi .slt (BitVec.ofNat 32 k.val) 0#32 = 0#1 := by
    show BitVec.ofBool (decide ((BitVec.ofNat 32 k.val).toInt < (0#32).toInt)) = 0#1
    rw [hint, decide_eq_false (by show ¬ ((k.val : ℤ) < 0); omega)]; rfl
  have hge : IntOp.cmpi .sge (BitVec.ofNat 32 k.val) 0#32 = 1#1 := by
    show BitVec.ofBool (decide ((0#32).toInt ≤ (BitVec.ofNat 32 k.val).toInt)) = 1#1
    rw [hint, decide_eq_true (by show (0 : ℤ) ≤ k.val; omega)]; rfl
  have hle : IntOp.cmpi .sle (BitVec.ofNat 32 k.val) 2047#32 = 1#1 := by
    show BitVec.ofBool (decide ((BitVec.ofNat 32 k.val).toInt ≤ (2047#32).toInt)) = 1#1
    rw [hint, decide_eq_true (by show (k.val : ℤ) ≤ 2047; omega)]; rfl
  have hw : wrapped (F := Ideal) i (ix3 a 0 0) = BitVec.ofNat 32 k.val := by
    pointwise [wrapped]
    rw [hk, hlt]; rfl
  have hin : inRow (F := Ideal) (wrapped (F := Ideal) i) (ix2 a 0) = 1#1 := by
    generalize wrapped (F := Ideal) i = u at hw ⊢
    pointwise [inRow]
    simp [hw, hge, hle, IntOp.andi]
  have e : taken (F := Ideal) s i (ix2 a 0) = Scalar.select (inRow (F := Ideal) (wrapped (F := Ideal) i) (ix2 a 0))
      (Host.gather gather_S8x2048_S8x1x1_S8x1_n_1_0_0_1_2_11 s (wrapped (F := Ideal) i) (ix2 a 0))
      (broadcastInDim S8x1 ![] bcast_S_S8x1 (constant (F := Ideal) S_ .f32 0x7FC00000#32) (ix2 a 0)) := rfl
  rw [e, hin, gather_at]
  have hq : (⟨min (wrapped (F := Ideal) i (ix3 a 0 0)).toInt.toNat 2047, by omega⟩ : Fin 2048) = k :=
    Fin.ext (by show min (wrapped (F := Ideal) i (ix3 a 0 0)).toInt.toNat 2047 = k.val; rw [hw, hint]; omega)
  rw [hq]; rfl

/-! ## The two results -/

/-- The log-softmax at an agent's index. -/
theorem logSoftmax_at (l : S8x2048.Idx → EReal) (a : Fin 8) (k : Fin 2048) :
    logSoftmax (F := Ideal) l (ix2 a k) = l (ix2 a k) - Ideal.log (∑ j, Ideal.exp (l (ix2 a j))) := by
  have hbot : Ideal.ofBits FTy.f32 4286578688#32 = ⊥ := by simp [Ideal.ofBits, Ideal.ieee]
  have hm : rowMax (F := Ideal) l (ix1 a) = Finset.univ.fold max ⊥ (fun j : Fin 2048 => l (ix2 a j)) := by
    pointwise [rowMax]
    rw [hbot, max_eq_right bot_le]
  have e : logSoftmax (F := Ideal) l (ix2 a k) = l (ix2 a k) - rowMax (F := Ideal) l (ix1 a)
      - Ideal.log (∑ j, Ideal.exp (l (ix2 a j) - rowMax (F := Ideal) l (ix1 a))) := by
    pointwise [logSoftmax, centred]
  rw [e, hm]
  exact log_softmax (fun j => l (ix2 a j)) k

section Results

variable (x : S8x2048.Idx → Elt Ideal .f32) (w : S8x2048x2048.Idx → Elt Ideal .f32) (b : S8x2048.Idx → Elt Ideal .f32) (a : Fin 8)

/-- An agent's row of logits. -/
def row (x : S8x2048.Idx → EReal) (w : S8x2048x2048.Idx → EReal) (b : S8x2048.Idx → EReal) (a : Fin 8) (k : Fin 2048) : EReal :=
  (∑ j : Fin 2048, x (ix2 a j) * w (ix3 a k j)) + b (ix2 a k)

/-- An agent's row of logits, perturbed by the noise. -/
def pert (x : S8x2048.Idx → EReal) (w : S8x2048x2048.Idx → EReal) (b : S8x2048.Idx → EReal) (a : Fin 8) (k : Fin 2048) : EReal :=
  row x w b a k + noise (F := Ideal) (ix2 a k)

/-- The logits at an agent's index. -/
theorem logits_at (k : Fin 2048) : logits (F := Ideal) x w b (ix2 a k) = row x w b a k := by
  pointwise [logits, row]

/-- The first result at an agent is the winner of its perturbed row, and the second its log-probability. -/
theorem results_at : ∃ k, IsWinner (pert x w b a) k ∧ actRes (F := Ideal) x w b (ix2 a 0) = BitVec.ofNat 32 k.val
    ∧ lpRes (F := Ideal) x w b (ix2 a 0) = row x w b a k - Ideal.log (∑ j, Ideal.exp (row x w b a j)) := by
  obtain ⟨k, hk, e⟩ := winner_at (addf (F := Ideal) (φ := .f32) (logits (F := Ideal) x w b) (noise (F := Ideal))) a
  have hp : (fun j => addf (F := Ideal) (φ := .f32) (logits (F := Ideal) x w b) (noise (F := Ideal)) (ix2 a j)) = pert x w b a := funext fun j => by
    unfold pert
    rw [← logits_at]; rfl
  rw [hp] at hk
  have ha : actRes (F := Ideal) x w b (ix2 a 0) = BitVec.ofNat 32 k.val := by
    rw [← e]
    unfold actRes
    pointwise [winnerCol]
  refine ⟨k, hk, ha, ?_⟩
  unfold lpRes
  rw [taken_at _ _ a k ha, logSoftmax_at]
  simp only [logits_at]

end Results

end Cert.ReferenceIdeal.Body

end
-- ==== Proof.Equal.lean ====
/- The kernel's two results are the reference's, over the extended reals. -/
module

public import proofs.«01_k».proof.Proof.ValueIdeal
public import proofs.«01_k».proof.Proof.ValueRef

@[expose] public section

set_option maxRecDepth 20000

noncomputable section

namespace Cert.Equal

open Idealize.ShloMosaic Cert.Rows

/-- The kernel's noise and the reference's are one table. -/
theorem lit_eq : Cert.KernelIdeal.lit0 = Cert.ReferenceIdeal.lit0 := rfl

/-- The two programs perturb by the same noise. -/
theorem noise_eq : Cert.KernelIdeal.Body.noise (F := Ideal) = Cert.ReferenceIdeal.Body.noise (F := Ideal) := by
  unfold Cert.KernelIdeal.Body.noise Cert.ReferenceIdeal.Body.noise
  rw [lit_eq]

/-- The two programs' logits agree. -/
theorem row_eq (x : Cert.KernelIdeal.S8x2048.Idx → EReal) (w : Cert.KernelIdeal.S8x2048x2048.Idx → EReal)
    (b : Cert.KernelIdeal.S8x2048.Idx → EReal) (a : Fin 8) :
    Cert.KernelIdeal.Body.row x w b a = Cert.ReferenceIdeal.Body.row x w b a := rfl

/-- The two programs' perturbed logits agree. -/
theorem pert_eq (x : Cert.KernelIdeal.S8x2048.Idx → EReal) (w : Cert.KernelIdeal.S8x2048x2048.Idx → EReal)
    (b : Cert.KernelIdeal.S8x2048.Idx → EReal) (a : Fin 8) :
    Cert.KernelIdeal.Body.pert x w b a = Cert.ReferenceIdeal.Body.pert x w b a := by
  funext k
  unfold Cert.KernelIdeal.Body.pert Cert.ReferenceIdeal.Body.pert
  rw [row_eq, noise_eq]

/-- At every agent the two programs pick the same index and the same log-probability. -/
theorem at_eq (x : Cert.KernelIdeal.S8x2048.Idx → EReal) (w : Cert.KernelIdeal.S8x2048x2048.Idx → EReal)
    (b : Cert.KernelIdeal.S8x2048.Idx → EReal) (a : Fin 8) :
    Cert.KernelIdeal.Body.actRes (F := Ideal) x w b (ix2 a 0) = Cert.ReferenceIdeal.Body.actRes (F := Ideal) x w b (ix2 a 0)
    ∧ Cert.KernelIdeal.Body.lpRes (F := Ideal) x w b (ix2 a 0) = Cert.ReferenceIdeal.Body.lpRes (F := Ideal) x w b (ix2 a 0) := by
  obtain ⟨k, hk, e1, e2⟩ := Cert.KernelIdeal.Body.results_at x w b a
  obtain ⟨k', hk', e1', e2'⟩ := Cert.ReferenceIdeal.Body.results_at x w b a
  rw [pert_eq] at hk
  obtain rfl := hk.unique hk'
  rw [e1, e1', e2, e2', row_eq]
  exact ⟨rfl, rfl⟩

/-- The actions agree. -/
theorem act_eq (x : Cert.KernelIdeal.S8x2048.Idx → EReal) (w : Cert.KernelIdeal.S8x2048x2048.Idx → EReal)
    (b : Cert.KernelIdeal.S8x2048.Idx → EReal) :
    Cert.ReferenceIdeal.Body.actRes (F := Ideal) x w b = Cert.KernelIdeal.Body.actRes (F := Ideal) x w b := by
  funext i
  obtain ⟨a, z, rfl⟩ : ∃ (a : Fin 8) (z : Fin 1), i = ix2 a z := ⟨i 0, i 1, eq_ix2 i⟩
  obtain rfl : z = 0 := Subsingleton.elim _ _
  exact (at_eq x w b a).1.symm

/-- The log-probabilities agree. -/
theorem lp_eq (x : Cert.KernelIdeal.S8x2048.Idx → EReal) (w : Cert.KernelIdeal.S8x2048x2048.Idx → EReal)
    (b : Cert.KernelIdeal.S8x2048.Idx → EReal) :
    Cert.ReferenceIdeal.Body.lpRes (F := Ideal) x w b = Cert.KernelIdeal.Body.lpRes (F := Ideal) x w b := by
  funext i
  obtain ⟨a, z, rfl⟩ : ∃ (a : Fin 8) (z : Fin 1), i = ix2 a z := ⟨i 0, i 1, eq_ix2 i⟩
  obtain rfl : z = 0 := Subsingleton.elim _ _
  exact (at_eq x w b a).2.symm

end Cert.Equal

end
-- ==== Proof.lean ====
module

public import proofs.«01_k».proof.Defs
public import proofs.«01_k».proof.Proof.ResultKernel
public import proofs.«01_k».proof.Proof.ResultIdeal
public import proofs.«01_k».proof.Proof.RefRun
public import proofs.«01_k».proof.Proof.Equal
public import proofs.«01_k».proof.Proof.Gen.ReferenceIdeal
public import Idealize.ShloMosaic.Adequacy
public import Idealize.ShloMosaic.Init
public import Idealize.ShloMosaic.Lib.Claim

@[expose] public section

noncomputable section

namespace Cert.Proof

open Idealize.ShloMosaic Idealize.SL.Sem

/-- The constant the kernel masks with is rewritten to the value its table names. -/
theorem preserves : Cert.preserves_Kernel_KernelIdeal :=
  IdealRules.named_const.statement Cert.KernelIdeal.κ "mask" .f32 0xF149F2CA#32 ⊥ rfl

/-- From arguments that agree, the kernel and the reference end with the same actions and the same log-probabilities. -/
theorem algebraic : Cert.algebraic_KernelIdeal_ReferenceIdeal (hKernelIdeal := Cert.KernelIdeal.Gen.facts)
    (hReferenceIdeal := Cert.ReferenceIdeal.Gen.facts) := by
  intro m g m' g' _ hm
  refine ⟨_, _, Cert.KernelIdeal.Body.run_results (F := Ideal) m g,
    (θ_run _ _ _).mono (fun r h c => ?_) (Cert.ReferenceIdeal.Body.run_results (F := Ideal) m' g')⟩
  obtain ⟨h0, h1, ha⟩ := h c
  obtain ⟨e0, e1, e2⟩ := hm c
  refine ⟨h0.trans ?_, h1.trans ?_, ha⟩
  · rw [← Cert.Equal.act_eq]
    exact congr (congr (congrArg _ e0) e1) e2
  · rw [← Cert.Equal.lp_eq]
    exact congr (congr (congrArg _ e0) e1) e2

theorem claim : Cert.Claim := ⟨Cert.Kernel.Gen.facts, Cert.KernelIdeal.Gen.facts, Cert.ReferenceIdeal.Gen.facts,
  fun m g _ => Cert.Kernel.Body.run_quiescent m g, fun m g _ => Cert.KernelIdeal.Body.run_quiescent m g,
  fun m g _ => Cert.ReferenceIdeal.Body.run_quiescent m g, preserves, algebraic⟩

end Cert.Proof

end
